-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64x64 : Shape := ⟨3, ![1024, 64, 64]⟩
abbrev S1024 : Shape := ⟨1, ![1024]⟩
abbrev S_ : Shape := ⟨0, ![]⟩
abbrev S8192x4096 : Shape := ⟨2, ![8192, 4096]⟩
abbrev S8192x1024 : Shape := ⟨2, ![8192, 1024]⟩
abbrev S1024x8192 : Shape := ⟨2, ![1024, 8192]⟩
abbrev S1x8192 : Shape := ⟨2, ![1, 8192]⟩
abbrev S1024x4096 : Shape := ⟨2, ![1024, 4096]⟩
abbrev S1024x1024 : Shape := ⟨2, ![1024, 1024]⟩
abbrev S1x1 : Shape := ⟨2, ![1, 1]⟩
abbrev S512x4096 : Shape := ⟨2, ![512, 4096]⟩
abbrev S512 : Shape := ⟨1, ![512]⟩
abbrev S512x1 : Shape := ⟨2, ![512, 1]⟩
abbrev S1x1024 : Shape := ⟨2, ![1, 1024]⟩
abbrev S1024x128 : Shape := ⟨2, ![1024, 128]⟩
abbrev S1024x1 : Shape := ⟨2, ![1024, 1]⟩
abbrev S256x8192 : Shape := ⟨2, ![256, 8192]⟩
abbrev S1024x256 : Shape := ⟨2, ![1024, 256]⟩
abbrev S8192 : Shape := ⟨1, ![8192]⟩
abbrev S1024x2048 : Shape := ⟨2, ![1024, 2048]⟩
abbrev S2048 : Shape := ⟨1, ![2048]⟩
abbrev S1 : Shape := ⟨1, ![1]⟩
abbrev S256 : Shape := ⟨1, ![256]⟩
abbrev S1x256 : Shape := ⟨2, ![1, 256]⟩

abbrev nBuf : Space → Nat
  | .hbm => 13
  | .vmem => 20
  | .smem => 0
  | _ => 0

abbrev bufTy : (tb : Table) → Fin (tcTables nBuf tb) → BufTy
  | .hbm, ⟨0, _⟩ => ⟨S1024x64x64, .f32⟩
  | .hbm, ⟨1, _⟩ => ⟨S1024, .i32⟩
  | .hbm, ⟨2, _⟩ => ⟨S_, .i32⟩
  | .hbm, ⟨3, _⟩ => ⟨S8192x4096, .f32⟩
  | .hbm, ⟨4, _⟩ => ⟨S8192x1024, .f32⟩
  | .hbm, ⟨5, _⟩ => ⟨S1024x8192, .f32⟩
  | .hbm, ⟨6, _⟩ => ⟨S1x8192, .f32⟩
  | .hbm, ⟨7, _⟩ => ⟨S1024x4096, .f32⟩
  | .hbm, ⟨8, _⟩ => ⟨S1024x4096, .bf16⟩
  | .hbm, ⟨9, _⟩ => ⟨S1024, .i32⟩
  | .hbm, ⟨10, _⟩ => ⟨S1024x1024, .f32⟩
  | .hbm, ⟨11, _⟩ => ⟨S1x1, .f32⟩
  | .hbm, ⟨12, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x4096, .bf16⟩
  | .local _ .vmem, ⟨5, _⟩ => ⟨S1024x4096, .f32⟩
  | .local _ .vmem, ⟨6, _⟩ => ⟨S1024x4096, .f32⟩
  | .local _ .vmem, ⟨7, _⟩ => ⟨S1x1024, .f32⟩
  | .local _ .vmem, ⟨8, _⟩ => ⟨S1x1024, .f32⟩
  | .local _ .vmem, ⟨9, _⟩ => ⟨S1024, .i32⟩
  | .local _ .vmem, ⟨10, _⟩ => ⟨S1024x128, .f32⟩
  | .local _ .vmem, ⟨11, _⟩ => ⟨S1024x128, .i32⟩
  | .local _ .vmem, ⟨12, _⟩ => ⟨S1024, .i32⟩
  | .local _ .vmem, ⟨13, _⟩ => ⟨S256x8192, .f32⟩
  | .local _ .vmem, ⟨14, _⟩ => ⟨S256x8192, .f32⟩
  | .local _ .vmem, ⟨15, _⟩ => ⟨S1x8192, .f32⟩
  | .local _ .vmem, ⟨16, _⟩ => ⟨S1024x256, .f32⟩
  | .local _ .vmem, ⟨17, _⟩ => ⟨S1024x256, .f32⟩
  | .local _ .vmem, ⟨18, _⟩ => ⟨S1x1, .f32⟩
  | .local _ .vmem, ⟨19, _⟩ => ⟨S8192, .f32⟩
  | _, _ => ⟨S1024x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0_0 : Ref sig .tc := ⟨.hbm, 10, rfl⟩
abbrev main_call0_v3_1 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem3_1 : DmaSem sig := 15
abbrev cc2_sem4_0 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v106 : BitVec 1 := Scalar.cmpi .eq arg0 c7_i32
  let v107 : BitVec 32 := Scalar.extui v106
  let c0_i32_36 : BitVec 32 := 0#32
  let v108 : BitVec 1 := Scalar.cmpi .ne v107 c0_i32_36
  v108

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![4], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S1024x64x64 : Shape := ⟨3, ![1024, 64, 64]⟩
abbrev S1024 : Shape := ⟨1, ![1024]⟩
abbrev S_ : Shape := ⟨0, ![]⟩
abbrev S8192x4096 : Shape := ⟨2, ![8192, 4096]⟩
abbrev S8192x1024 : Shape := ⟨2, ![8192, 1024]⟩
abbrev S1024x8192 : Shape := ⟨2, ![1024, 8192]⟩
abbrev S1x8192 : Shape := ⟨2, ![1, 8192]⟩
abbrev S1024x4096 : Shape := ⟨2, ![1024, 4096]⟩
abbrev S1024x1 : Shape := ⟨2, ![1024, 1]⟩
abbrev S8192 : Shape := ⟨1, ![8192]⟩
abbrev S8192x1 : Shape := ⟨2, ![8192, 1]⟩
abbrev S4096x8192 : Shape := ⟨2, ![4096, 8192]⟩
abbrev S1024x2 : Shape := ⟨2, ![1024, 2]⟩
abbrev S1024x1024 : Shape := ⟨2, ![1024, 1024]⟩

abbrev nBuf : Space → Nat
  | .hbm => 79
  | .vmem => 0
  | .smem => 0
  | _ => 0

abbrev bufTy : (tb : Table) → Fin (tcTables nBuf tb) → BufTy
  | .hbm, ⟨0, _⟩ => ⟨S1024x64x64, .f32⟩
  | .hbm, ⟨1, _⟩ => ⟨S1024, .i32⟩
  | .hbm, ⟨2, _⟩ => ⟨S_, .i32⟩
  | .hbm, ⟨3, _⟩ => ⟨S8192x4096, .f32⟩
  | .hbm, ⟨4, _⟩ => ⟨S8192x1024, .f32⟩
  | .hbm, ⟨5, _⟩ => ⟨S1024x8192, .f32⟩
  | .hbm, ⟨6, _⟩ => ⟨S1x8192, .f32⟩
  | .hbm, ⟨7, _⟩ => ⟨S1024x4096, .f32⟩
  | .hbm, ⟨8, _⟩ => ⟨S1024x4096, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x4096, .f32⟩
  | .hbm, ⟨17, _⟩ => ⟨S1024x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S1024x8192, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x8192, .f32⟩
  | .hbm, ⟨37, _⟩ => ⟨S1024x8192, .f32⟩
  | .hbm, ⟨38, _⟩ => ⟨S4096x8192, .f32⟩
  | .hbm, ⟨39, _⟩ => ⟨S1024x8192, .f32⟩
  | .hbm, ⟨40, _⟩ => ⟨S_, .f32⟩
  | .hbm, ⟨41, _⟩ => ⟨S1x8192, .f32⟩
  | .hbm, ⟨42, _⟩ => ⟨S1x8192, .i1⟩
  | .hbm, ⟨43, _⟩ => ⟨S_, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S1x8192, .f32⟩
  | .hbm, ⟨48, _⟩ => ⟨S1x8192, .f32⟩
  | .hbm, ⟨49, _⟩ => ⟨S1024x8192, .f32⟩
  | .hbm, ⟨50, _⟩ => ⟨S1024x8192, .f32⟩
  | .hbm, ⟨51, _⟩ => ⟨S1024x8192, .i32⟩
  | .hbm, ⟨52, _⟩ => ⟨S_, .f32⟩
  | .hbm, ⟨53, _⟩ => ⟨S_, .i32⟩
  | .hbm, ⟨54, _⟩ => ⟨S1024, .f32⟩
  | .hbm, ⟨55, _⟩ => ⟨S1024, .i32⟩
  | .hbm, ⟨56, _⟩ => ⟨S_, .f32⟩
  | .hbm, ⟨57, _⟩ => ⟨S1024x8192, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x1, .i32⟩
  | .hbm, ⟨70, _⟩ => ⟨S1024x2, .i32⟩
  | .hbm, ⟨71, _⟩ => ⟨S_, .f32⟩
  | .hbm, ⟨72, _⟩ => ⟨S1024, .f32⟩
  | .hbm, ⟨73, _⟩ => ⟨S1024x8192, .f32⟩
  | .hbm, ⟨74, _⟩ => ⟨S8192x1024, .f32⟩
  | .hbm, ⟨75, _⟩ => ⟨S1024x1024, .f32⟩
  | .hbm, ⟨76, _⟩ => ⟨S1x8192, .f32⟩
  | .hbm, ⟨77, _⟩ => ⟨S_, .f32⟩
  | .hbm, ⟨78, _⟩ => ⟨S_, .f32⟩
  | _, _ => ⟨S1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_cst_4 : Ref sig .tc := ⟨.hbm, 44, rfl⟩
abbrev main_call3_v0 : Ref sig .tc := ⟨.hbm, 45, rfl⟩
abbrev main_call3_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call4_v0 : Ref sig .tc := ⟨.hbm, 51, rfl⟩
abbrev main_call4_cst : Ref sig .tc := ⟨.hbm, 52, rfl⟩
abbrev main_call4_c : Ref sig .tc := ⟨.hbm, 53, rfl⟩
abbrev main_call4_v1_0 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_c : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_7 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩

abbrev nD : Nat := 1
abbrev τ : Topo := Topo.v7x

variable {F : FTy → Type} [FloatOps F]
-- ==== Proof.IdealBodies.lean ====
/- The three kernel bodies of the program: what each leaves in its buffers, and its triple on any staging buffers.
   Stated for any interpretation of the float types. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The normalisation of `x` -/

set_option maxHeartbeats 1000000 in
/-- The first body leaves the block of `x` with each row divided by its norm, `k0_pay1`, in its output. -/
theorem norm_triple (c : Dev nD) (E : Set ℕ) (i : grid0.Coords) (a1 : Memref sig .tc .vmem S512x4096 .f32) (w1 : a1.IsWhole)
    (a2 : Memref sig .tc .vmem S512x4096 .bf16) (w2 : a2.IsWhole) (x : Vec F S512x4096 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (k0_pay1 x)) -∗ K ⟨⟩))
      ⊢ wp frame (wpE (defs₀ (F := F)) Variants.none c none) E (cc0__xnorm_kernel i a1 w1 a2 w2) K := by
  simp only [cc0__xnorm_kernel_eq_skeleton]; unfold cc0__xnorm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact (View.read_writes_full ..).trans (congrArg k0_pay1 (View.readAt_full ..))

/-! ## The scores and their running maximum -/

/-- The lane number of each entry. -/
abbrev laneNo : IVec S1024x128 32 := iota .tc S1024x128 32 [1] iota_S1024x128_d1_w32

/-- The scores of one block of columns: `xb` against the rows of the block of weights `w`, scaled by `a`'s mask. -/
abbrev scores (xb : Vec F S1024x4096 .bf16) (w : Vec F S1024x4096 .f32) (a : Vec F S1x1024 .f32) : FVec F S1024x1024 .f32 := k1_pay11 w xb a

/-- The running maximum per row and lane after one more block, from the maximum `s` before it. -/
def nextMax (s : Vec F S1024x128 .f32) (xb : Vec F S1024x4096 .bf16) (w : Vec F S1024x4096 .f32) (a : Vec F S1x1024 .f32) : FVec F S1024x128 .f32 :=
  k1_pay6 (scores xb w a) (k1_pay28 (scores xb w a) (k1_pay15 s w xb a))

/-- The column at which that maximum was first met, from the column `r` before the block. -/
def nextCol (i : grid1.Coords) (s : Vec F S1024x128 .f32) (r : Vec F S1024x128 .i32) (xb : Vec F S1024x4096 .bf16) (w : Vec F S1024x4096 .f32)
    (a : Vec F S1x1024 .f32) : IVec S1024x128 32 :=
  k1_pay7 (BitVec.ofNat 32 (i 0).val) laneNo (scores xb w a)
    (k1_pay24 (BitVec.ofNat 32 (i 0).val) r laneNo (scores xb w a) (k1_pay13 i) (k1_pay14 s w xb a) (k1_pay15 s w xb a))
    (k1_pay26 (BitVec.ofNat 32 (i 0).val) laneNo) (k1_pay27 (scores xb w a) (k1_pay15 s w xb a)) (k1_pay28 (scores xb w a) (k1_pay15 s w xb a))

/-- The result of a row: the least column among the lanes whose maximum is the row's maximum. -/
def bestCol (i : grid1.Coords) (s : Vec F S1024x128 .f32) (r : Vec F S1024x128 .i32) (xb : Vec F S1024x4096 .bf16) (w : Vec F S1024x4096 .f32)
    (a : Vec F S1x1024 .f32) : IVec S1024 32 :=
  k1_pay8 (BitVec.ofNat 32 (i 0).val) laneNo (scores xb w a)
    (k1_pay24 (BitVec.ofNat 32 (i 0).val) r laneNo (scores xb w a) (k1_pay13 i) (k1_pay14 s w xb a) (k1_pay15 s w xb a))
    (k1_pay26 (BitVec.ofNat 32 (i 0).val) laneNo) (k1_pay27 (scores xb w a) (k1_pay15 s w xb a)) (k1_pay28 (scores xb w a) (k1_pay15 s w xb a))

/-- The second body is at its first point. -/
abbrev first1 (i : grid1.Coords) : Prop := (Scalar.cmpi .ne (Scalar.extui (Scalar.cmpi .eq (BitVec.ofNat 32 (i 0).val) 0#32)) 0#32) = 1#1
/-- The second body is at its last point. -/
abbrev last1 (i : grid1.Coords) : Prop := k1_cond2 i = 1#1

set_option maxHeartbeats 2000000 in
/-- The second body at its first point: the running maximum starts from `k1_pay9`, its column from `k1_pay10`, and the output is untouched. -/
theorem scan_triple_first (c : Dev nD) (E : Set ℕ) (i : grid1.Coords) (a1 : Memref sig .tc .vmem S1024x4096 .bf16) (w1 : a1.IsWhole) (a2 : Memref sig .tc .vmem S1024x4096 .f32) (w2 : a2.IsWhole)
    (a3 : Memref sig .tc .vmem S1x1024 .f32) (w3 : a3.IsWhole) (a4 : Memref sig .tc .vmem S1024 .i32) (w4 : a4.IsWhole)
    (a5 : Memref sig .tc .vmem S1024x128 .f32) (w5 : a5.IsWhole) (a6 : Memref sig .tc .vmem S1024x128 .i32) (w6 : a6.IsWhole)
    (hf : first1 i) (hl : ¬last1 i)
    (xb : Vec F S1024x4096 .bf16) (w : Vec F S1024x4096 .f32) (a : Vec F S1x1024 .f32) (o : Vec F S1024 .i32) (K : PUnit → sProp 𝕄) :
    iprop(owns (c : Thread nD τ) a1 fullShare xb ∗ owns (c : Thread nD τ) a2 fullShare w ∗ owns (c : Thread nD τ) a3 fullShare a ∗ owns (c : Thread nD τ) a4 fullShare o ∗ (∃ d, owns (c : Thread nD τ) a5 fullShare d) ∗ (∃ d, owns (c : Thread nD τ) a6 fullShare d)
        ∗ (iprop(owns (c : Thread nD τ) a1 fullShare xb ∗ owns (c : Thread nD τ) a2 fullShare w ∗ owns (c : Thread nD τ) a3 fullShare a ∗ owns (c : Thread nD τ) a4 fullShare o ∗ owns (c : Thread nD τ) a5 fullShare (nextMax k1_pay9 xb w a) ∗ owns (c : Thread nD τ) a6 fullShare (nextCol i k1_pay9 k1_pay10 xb w a)) -∗ K ⟨⟩))
      ⊢ wp frame (wpE (defs₀ (F := F)) Variants.none c none) E (cc1__matmul_argmax_kernel i a1 w1 a2 w2 a3 w3 a4 w4 a5 w5 a6 w6) K := by
  simp only [cc1__matmul_argmax_kernel_eq_skeleton]; unfold cc1__matmul_argmax_kernel_skel
  simp only [k1_part1_eq_skeleton, k1_part2_eq_skeleton]
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, Hk⟩
  subst h1 h2 h3 h4
  have e1 : View.readAt (Elt F) a1.view (Rect.unit ![0, 0] ![1024, 4096] inb_S1024x4096_S1024x4096_0_0).toLoadRect f1 = View.read (Elt F) a1.view f1 := View.readAt_full ..
  have e2 : View.readAt (Elt F) a2.view (Rect.unit ![0, 0] ![1024, 4096] inb_S1024x4096_S1024x4096_0_0).toLoadRect f2 = View.read (Elt F) a2.view f2 := View.readAt_full ..
  have e3 : View.readAt (Elt F) a3.view (Rect.unit ![0, 0] ![1, 1024] inb_S1x1024_S1x1024_0_0).toLoadRect f3 = View.read (Elt F) a3.view f3 := View.readAt_full ..
  sl_exec (disch := first | sl_exact hf | sl_exact hl)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro; refine (View.read_writes_full ..).trans ?_
    show nextMax (a5.view.readCov [⟨(Rect.unit ![0, 0] ![1024, 128] inb_S1024x128_S1024x128_0_0), k1_pay9 (F := F)⟩] (Rect.unit ![0, 0] ![1024, 128] inb_S1024x128_S1024x128_0_0).toLoadRect) _ _ _ = _
    exact congrArg (fun s => nextMax s _ _ _) (View.readCov_full ..)
  iexists _; isplitr; swap; · iexact H6
  ipureintro; refine (View.read_writes_full ..).trans ?_
  show nextCol i (a5.view.readCov [⟨(Rect.unit ![0, 0] ![1024, 128] inb_S1024x128_S1024x128_0_0), k1_pay9 (F := F)⟩] (Rect.unit ![0, 0] ![1024, 128] inb_S1024x128_S1024x128_0_0).toLoadRect) (a6.view.readCov [⟨(Rect.unit ![0, 0] ![1024, 128] inb_S1024x128_S1024x128_0_0), k1_pay10⟩] (Rect.unit ![0, 0] ![1024, 128] inb_S1024x128_S1024x128_0_0).toLoadRect) _ _ _ = _
  exact congrArg₂ (fun s r => nextCol i s r _ _ _) (View.readCov_full ..) (View.readCov_full ..)

set_option maxHeartbeats 2000000 in
/-- The second body at a point neither first nor last: the running maximum and its column advance, and the output is untouched. -/
theorem scan_triple_mid (c : Dev nD) (E : Set ℕ) (i : grid1.Coords) (a1 : Memref sig .tc .vmem S1024x4096 .bf16) (w1 : a1.IsWhole) (a2 : Memref sig .tc .vmem S1024x4096 .f32) (w2 : a2.IsWhole)
    (a3 : Memref sig .tc .vmem S1x1024 .f32) (w3 : a3.IsWhole) (a4 : Memref sig .tc .vmem S1024 .i32) (w4 : a4.IsWhole)
    (a5 : Memref sig .tc .vmem S1024x128 .f32) (w5 : a5.IsWhole) (a6 : Memref sig .tc .vmem S1024x128 .i32) (w6 : a6.IsWhole)
    (hf : ¬first1 i) (hl : ¬last1 i)
    (xb : Vec F S1024x4096 .bf16) (w : Vec F S1024x4096 .f32) (a : Vec F S1x1024 .f32) (o : Vec F S1024 .i32)
    (s : Vec F S1024x128 .f32) (r : Vec F S1024x128 .i32) (K : PUnit → sProp 𝕄) :
    iprop(owns (c : Thread nD τ) a1 fullShare xb ∗ owns (c : Thread nD τ) a2 fullShare w ∗ owns (c : Thread nD τ) a3 fullShare a ∗ owns (c : Thread nD τ) a4 fullShare o ∗ owns (c : Thread nD τ) a5 fullShare s ∗ owns (c : Thread nD τ) a6 fullShare r
        ∗ (iprop(owns (c : Thread nD τ) a1 fullShare xb ∗ owns (c : Thread nD τ) a2 fullShare w ∗ owns (c : Thread nD τ) a3 fullShare a ∗ owns (c : Thread nD τ) a4 fullShare o ∗ owns (c : Thread nD τ) a5 fullShare (nextMax s xb w a) ∗ owns (c : Thread nD τ) a6 fullShare (nextCol i s r xb w a)) -∗ K ⟨⟩))
      ⊢ wp frame (wpE (defs₀ (F := F)) Variants.none c none) E (cc1__matmul_argmax_kernel i a1 w1 a2 w2 a3 w3 a4 w4 a5 w5 a6 w6) K := by
  simp only [cc1__matmul_argmax_kernel_eq_skeleton]; unfold cc1__matmul_argmax_kernel_skel
  simp only [k1_part1_eq_skeleton, k1_part2_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, Hk⟩
  subst h1 h2 h3 h4 h5 h6
  have e1 : View.readAt (Elt F) a1.view (Rect.unit ![0, 0] ![1024, 4096] inb_S1024x4096_S1024x4096_0_0).toLoadRect f1 = View.read (Elt F) a1.view f1 := View.readAt_full ..
  have e2 : View.readAt (Elt F) a2.view (Rect.unit ![0, 0] ![1024, 4096] inb_S1024x4096_S1024x4096_0_0).toLoadRect f2 = View.read (Elt F) a2.view f2 := View.readAt_full ..
  have e3 : View.readAt (Elt F) a3.view (Rect.unit ![0, 0] ![1, 1024] inb_S1x1024_S1x1024_0_0).toLoadRect f3 = View.read (Elt F) a3.view f3 := View.readAt_full ..
  have e5 : View.readAt (Elt F) a5.view (Rect.unit ![0, 0] ![1024, 128] inb_S1024x128_S1024x128_0_0).toLoadRect f5 = View.read (Elt F) a5.view f5 := View.readAt_full ..
  have e6 : View.readAt (Elt F) a6.view (Rect.unit ![0, 0] ![1024, 128] inb_S1024x128_S1024x128_0_0).toLoadRect f6 = View.read (Elt F) a6.view f6 := View.readAt_full ..
  sl_exec (disch := first | sl_exact hf | sl_exact hl)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro; refine (View.read_writes_full ..).trans ?_; rfl
  iexists _; isplitr; swap; · iexact H6
  ipureintro; refine (View.read_writes_full ..).trans ?_; rfl

set_option maxHeartbeats 2000000 in
/-- The second body at its last point: the running maximum and its column advance, and the output is each row's column. -/
theorem scan_triple_last (c : Dev nD) (E : Set ℕ) (i : grid1.Coords) (a1 : Memref sig .tc .vmem S1024x4096 .bf16) (w1 : a1.IsWhole) (a2 : Memref sig .tc .vmem S1024x4096 .f32) (w2 : a2.IsWhole)
    (a3 : Memref sig .tc .vmem S1x1024 .f32) (w3 : a3.IsWhole) (a4 : Memref sig .tc .vmem S1024 .i32) (w4 : a4.IsWhole)
    (a5 : Memref sig .tc .vmem S1024x128 .f32) (w5 : a5.IsWhole) (a6 : Memref sig .tc .vmem S1024x128 .i32) (w6 : a6.IsWhole)
    (hf : ¬first1 i) (hl : last1 i)
    (xb : Vec F S1024x4096 .bf16) (w : Vec F S1024x4096 .f32) (a : Vec F S1x1024 .f32)
    (s : Vec F S1024x128 .f32) (r : Vec F S1024x128 .i32) (K : PUnit → sProp 𝕄) :
    iprop(owns (c : Thread nD τ) a1 fullShare xb ∗ owns (c : Thread nD τ) a2 fullShare w ∗ owns (c : Thread nD τ) a3 fullShare a ∗ (∃ d, owns (c : Thread nD τ) a4 fullShare d) ∗ owns (c : Thread nD τ) a5 fullShare s ∗ owns (c : Thread nD τ) a6 fullShare r
        ∗ (iprop(owns (c : Thread nD τ) a1 fullShare xb ∗ owns (c : Thread nD τ) a2 fullShare w ∗ owns (c : Thread nD τ) a3 fullShare a ∗ owns (c : Thread nD τ) a4 fullShare (bestCol i s r xb w a) ∗ owns (c : Thread nD τ) a5 fullShare (nextMax s xb w a) ∗ owns (c : Thread nD τ) a6 fullShare (nextCol i s r xb w a)) -∗ K ⟨⟩))
      ⊢ wp frame (wpE (defs₀ (F := F)) Variants.none c none) E (cc1__matmul_argmax_kernel i a1 w1 a2 w2 a3 w3 a4 w4 a5 w5 a6 w6) K := by
  simp only [cc1__matmul_argmax_kernel_eq_skeleton]; unfold cc1__matmul_argmax_kernel_skel
  simp only [k1_part1_eq_skeleton, k1_part2_eq_skeleton]
  unfold owns
  iintro ⟨⟨%f1, %h1, H1⟩, ⟨%f2, %h2, H2⟩, ⟨%f3, %h3, H3⟩, ⟨%d4, %f4, -, H4⟩, ⟨%f5, %h5, H5⟩, ⟨%f6, %h6, H6⟩, Hk⟩
  subst h1 h2 h3 h5 h6
  have e1 : View.readAt (Elt F) a1.view (Rect.unit ![0, 0] ![1024, 4096] inb_S1024x4096_S1024x4096_0_0).toLoadRect f1 = View.read (Elt F) a1.view f1 := View.readAt_full ..
  have e2 : View.readAt (Elt F) a2.view (Rect.unit ![0, 0] ![1024, 4096] inb_S1024x4096_S1024x4096_0_0).toLoadRect f2 = View.read (Elt F) a2.view f2 := View.readAt_full ..
  have e3 : View.readAt (Elt F) a3.view (Rect.unit ![0, 0] ![1, 1024] inb_S1x1024_S1x1024_0_0).toLoadRect f3 = View.read (Elt F) a3.view f3 := View.readAt_full ..
  have e5 : View.readAt (Elt F) a5.view (Rect.unit ![0, 0] ![1024, 128] inb_S1024x128_S1024x128_0_0).toLoadRect f5 = View.read (Elt F) a5.view f5 := View.readAt_full ..
  have e6 : View.readAt (Elt F) a6.view (Rect.unit ![0, 0] ![1024, 128] inb_S1024x128_S1024x128_0_0).toLoadRect f6 = View.read (Elt F) a6.view f6 := View.readAt_full ..
  sl_exec (disch := first | sl_exact hf | sl_exact hl)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro; refine (View.read_writes_full ..).trans ?_; rfl
  isplitl [H5]
  · iexists _; isplitr; swap; · iexact H5
    ipureintro; refine (View.read_writes_full ..).trans ?_; rfl
  iexists _; isplitr; swap; · iexact H6
  ipureintro; refine (View.read_writes_full ..).trans ?_; rfl

/-! ## The marked columns and the result's blocks -/

/-- The third body is at its first point. -/
abbrev first2 (i : grid2.Coords) : Prop := k2_cond1 i = 1#1

/-- The four stores of the marks, last first. -/
abbrev markPieces (z : Vec F S1024 .i32) : List (View.Piece (Elt F) S8192 .f32) :=
  [⟨Rect.unit (s := S8192) ![6144] S2048.size inb_S8192_S2048_6144, k2_pay1 (k2_pay8 z)⟩,
   ⟨Rect.unit (s := S8192) ![4096] S2048.size inb_S8192_S2048_4096, k2_pay7 z⟩,
   ⟨Rect.unit (s := S8192) ![2048] S2048.size inb_S8192_S2048_2048, k2_pay6 z⟩,
   ⟨Rect.unit (s := S8192) ![0] S2048.size inb_S8192_S2048_0, k2_pay5 z⟩]

/-- The mark of each of the 8192 columns: whether some entry of `z` names it. -/
def marks (z : Vec F S1024 .i32) : Vec F S8192 .f32 := View.canon (markPieces z)

/-- The four stores cover the marks. -/
theorem marks_cover (z : Vec F S1024 .i32) (y : S8192.Idx) : ∃ pc ∈ markPieces z, y ∈ pc.1.set :=
  View.cover_of_tiledL (markPieces z) S2048.size (by sl_kernel_rfl) y

set_option maxHeartbeats 2000000 in
/-- The third body at its first point: it stores the marks and the count, then the block of the result. -/
theorem mark_triple_first (c : Dev nD) (E : Set ℕ) (i : grid2.Coords) (a1 : Memref sig .tc .vmem S1024 .i32) (w1 : a1.IsWhole) (a2 : Memref sig .tc .vmem S256x8192 .f32) (w2 : a2.IsWhole)
    (a3 : Memref sig .tc .vmem S1x8192 .f32) (w3 : a3.IsWhole) (a4 : Memref sig .tc .vmem S1024x256 .f32) (w4 : a4.IsWhole)
    (a5 : Memref sig .tc .vmem S1x1 .f32) (w5 : a5.IsWhole) (a6 : Memref sig .tc .vmem S8192 .f32) (w6 : a6.IsWhole)
    (hf : first2 i)
    (z : Vec F S1024 .i32) (w : Vec F S256x8192 .f32) (a : Vec F S1x8192 .f32) (K : PUnit → sProp 𝕄) :
    iprop(owns (c : Thread nD τ) a1 fullShare z ∗ owns (c : Thread nD τ) a2 fullShare w ∗ owns (c : Thread nD τ) a3 fullShare a ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare z ∗ owns (c : Thread nD τ) a2 fullShare w ∗ owns (c : Thread nD τ) a3 fullShare a ∗ owns (c : Thread nD τ) a4 fullShare (k2_pay3 w (marks z)) ∗ owns (c : Thread nD τ) a5 fullShare (k2_pay2 a) ∗ owns (c : Thread nD τ) a6 fullShare (marks z)) -∗ K ⟨⟩))
      ⊢ wp frame (wpE (defs₀ (F := F)) Variants.none c none) E (cc2__finish_kernel i a1 w1 a2 w2 a3 w3 a4 w4 a5 w5 a6 w6) K := by
  simp only [cc2__finish_kernel_eq_skeleton]; unfold cc2__finish_kernel_skel
  simp only [k2_part1_eq_skeleton]
  unfold owns
  iintro ⟨⟨%f1, %h1, H1⟩, ⟨%f2, %h2, H2⟩, ⟨%f3, %h3, H3⟩, ⟨%d4, %f4, -, H4⟩, ⟨%d5, %f5, -, H5⟩, ⟨%d6, %f6, -, H6⟩, Hk⟩
  subst h1 h2 h3
  have e1 : View.readAt (Elt F) a1.view (Rect.unit ![0] ![1024] inb_S1024_S1024_0).toLoadRect f1 = View.read (Elt F) a1.view f1 := View.readAt_full ..
  have e2 : View.readAt (Elt F) a2.view (Rect.unit ![0, 0] ![256, 8192] inb_S256x8192_S256x8192_0_0).toLoadRect f2 = View.read (Elt F) a2.view f2 := View.readAt_full ..
  have e3 : View.readAt (Elt F) a3.view (Rect.unit ![0, 0] ![1, 8192] inb_S1x8192_S1x8192_0_0).toLoadRect f3 = View.read (Elt F) a3.view f3 := View.readAt_full ..
  sl_exec (disch := first | sl_exact hf)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro; refine (View.read_writes_full ..).trans (congrArg (k2_pay3 _) ?_)
    exact (View.readCov_eq_canon_ld _ _ _ (marks_cover _)).trans (View.ld_unit_zero (by funext a; fin_cases a; rfl) ..)
  isplitl [H5]
  · iexists _; isplitr; swap; · iexact H5
    ipureintro; exact View.read_writes_full ..
  iexists _; isplitr; swap; · iexact H6
  ipureintro; exact View.read_writes_eq_canon _ _ _ (marks_cover _)

set_option maxHeartbeats 2000000 in
/-- The third body at a later point: it stores the block of the result from the marks `s` and leaves the count as it is. -/
theorem mark_triple_rest (c : Dev nD) (E : Set ℕ) (i : grid2.Coords) (a1 : Memref sig .tc .vmem S1024 .i32) (w1 : a1.IsWhole) (a2 : Memref sig .tc .vmem S256x8192 .f32) (w2 : a2.IsWhole)
    (a3 : Memref sig .tc .vmem S1x8192 .f32) (w3 : a3.IsWhole) (a4 : Memref sig .tc .vmem S1024x256 .f32) (w4 : a4.IsWhole)
    (a5 : Memref sig .tc .vmem S1x1 .f32) (w5 : a5.IsWhole) (a6 : Memref sig .tc .vmem S8192 .f32) (w6 : a6.IsWhole)
    (hf : ¬first2 i)
    (z : Vec F S1024 .i32) (w : Vec F S256x8192 .f32) (a : Vec F S1x8192 .f32)
    (n : Vec F S1x1 .f32) (s : Vec F S8192 .f32) (K : PUnit → sProp 𝕄) :
    iprop(owns (c : Thread nD τ) a1 fullShare z ∗ owns (c : Thread nD τ) a2 fullShare w ∗ owns (c : Thread nD τ) a3 fullShare a ∗ (∃ d, owns (c : Thread nD τ) a4 fullShare d) ∗ owns (c : Thread nD τ) a5 fullShare n ∗ owns (c : Thread nD τ) a6 fullShare s
        ∗ (iprop(owns (c : Thread nD τ) a1 fullShare z ∗ owns (c : Thread nD τ) a2 fullShare w ∗ owns (c : Thread nD τ) a3 fullShare a ∗ owns (c : Thread nD τ) a4 fullShare (k2_pay3 w s) ∗ owns (c : Thread nD τ) a5 fullShare n ∗ owns (c : Thread nD τ) a6 fullShare s) -∗ K ⟨⟩))
      ⊢ wp frame (wpE (defs₀ (F := F)) Variants.none c none) E (cc2__finish_kernel i a1 w1 a2 w2 a3 w3 a4 w4 a5 w5 a6 w6) K := by
  simp only [cc2__finish_kernel_eq_skeleton]; unfold cc2__finish_kernel_skel
  simp only [k2_part1_eq_skeleton]
  unfold owns
  iintro ⟨⟨%f1, %h1, H1⟩, ⟨%f2, %h2, H2⟩, ⟨%f3, %h3, H3⟩, ⟨%d4, %f4, -, H4⟩, ⟨%f5, %h5, H5⟩, ⟨%f6, %h6, H6⟩, Hk⟩
  subst h1 h2 h3 h5 h6
  have e1 : View.readAt (Elt F) a1.view (Rect.unit ![0] ![1024] inb_S1024_S1024_0).toLoadRect f1 = View.read (Elt F) a1.view f1 := View.readAt_full ..
  have e2 : View.readAt (Elt F) a2.view (Rect.unit ![0, 0] ![256, 8192] inb_S256x8192_S256x8192_0_0).toLoadRect f2 = View.read (Elt F) a2.view f2 := View.readAt_full ..
  have e3 : View.readAt (Elt F) a3.view (Rect.unit ![0, 0] ![1, 8192] inb_S1x8192_S1x8192_0_0).toLoadRect f3 = View.read (Elt F) a3.view f3 := View.readAt_full ..
  have e6 : View.readAt (Elt F) a6.view (Rect.unit ![0] ![8192] inb_S8192_S8192_0).toLoadRect f6 = View.read (Elt F) a6.view f6 := View.readAt_full ..
  sl_exec (disch := first | sl_exact hf)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro; exact View.read_writes_full ..
  isplitl [H5]
  · iexists _; isplitr; · ipureintro; rfl
    iexact H5
  iexists _; isplitr; · ipureintro; rfl
  iexact H6

end Cert.KernelIdeal.Whole

end
-- ==== Proof.IdealData.lean ====
/- The proof data of the three kernel calls: what each call's buffers hold after every grid point, over the contents `W`
   of the arrays when the call is entered, and each call's body obligation. -/
module

public import proofs.«01_k».proof.Proof.IdealBodies

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The arrays of each core as a call finds them. -/
abbrev Entry (F : FTy → Type) [FloatOps F] : Type := Dev nD → Valuation τ sig (Elt F)

variable (W : Entry F)

/-! ## Call 0: the normalisation -/

/-- Window `w`'s block at point `t` of call 0. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Call 0's proof data: each point leaves the normalised block in the output's buffer. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => k0_pay1 (blk0 W c 0 t)
  Φ _ := Pipeline.scopedRest spec0 c
  q _ := fullShare
  owed _ := 0

/-- The arrays of call 0 start as the valuation has them. -/
theorem dat0_A (c : Dev nD) (w : Fin cfg0.W) : (dat0 W c).A w = W c (Proc.devRef .tc (Pipeline.arrRef spec0 w)) := by
  dsimp only [dat0]
/-- After a point of call 0 window 0 holds its block as read. -/
theorem dat0_after0 (c : Dev nD) (t : Fin cfg0.N) : (dat0 W c).after 0 t = blk0 W c 0 t := by dsimp only [dat0]
/-- After a point of call 0 window 1 holds the rows divided by their norms. -/
theorem dat0_after1 (c : Dev nD) (t : Fin cfg0.N) : (dat0 W c).after 1 t = k0_pay1 (blk0 W c 0 t) := by dsimp only [dat0]
/-- Input window 0 of call 0 holds its block at every point. -/
theorem dat0_before0 (c : Dev nD) (t : Fin cfg0.N) (d) : (dat0 W c).before 0 t d = blk0 W c 0 t :=
  ((dat0 W c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)

/-- What the body of call 0 is given at a point. -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d)))

/-- What it must return. -/
def post0 (c : Dev nD) (t : Fin cfg0.N) : sProp 𝕄 :=
  iprop((dat0 W c).Φ t.succ ∗ (dat0 W c).owesAt () t.succ
    ∗ (dat0 W c).leavesExact 0 t
    ∗ (dat0 W c).leavesExact 1 t)

/-- The body of call 0 at any point. -/
theorem body0 (c : Dev nD) (t : Fin cfg0.N) :
    pre0 W c t ⊢ wp frame (wpE (defs₀ (F := F)) Variants.none c none) Set.univ (bodyAt0 t) (fun _ => post0 W c t) := by
  unfold pre0 post0 bodyAt0
  simp only [dat0_before0]
  rw [show (dat0 W c).owesAt () t.succ = (dat0 W c).owesAt () t.castSucc from rfl,
    show (dat0 W c).Φ t.succ = (dat0 W c).Φ t.castSucc from rfl]
  rw [show (dat0 W c).leavesExact 0 t = owns (c : Thread nD τ) (st0_0 t) fullShare ((dat0 W c).after 0 t) from rfl, dat0_after0]
  rw [show (dat0 W c).leavesExact 1 t = owns (c : Thread nD τ) (st0_1 t) fullShare ((dat0 W c).after 1 t) from rfl, dat0_after1]
  iintro ⟨HΦ, Ho, ⟨%d0, H0⟩, ⟨%d1, H1⟩⟩
  iapply (norm_triple c Set.univ (grid0.coords t) _ _ _ _ (blk0 W c 0 t))
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body that a point of call 0 runs is the printed one at that point's slots. -/
theorem row0 (t : Fin cfg0.N) : defs₀ (F := F) .tc cfg0.body (cfg0.bodyArgs t (cfg0.slots t)) = bodyAt0 t := by
  unfold defs₀; rw [Defs.onTc_tc]

/-- Call 0's body obligation, at every point. -/
theorem obligation0 (c : Dev nD) : BodyObligation (dat0 (F := F) W c) (defs₀ (F := F)) Variants.none () Set.univ := fun t => by
  rw [bigSep_W0, bigSep_W0, row0]
  exact triple_restated (body0 W c t) rfl .rfl fun _ => .rfl

/-- The scoped buffers are as they were. -/
theorem out0 (c : Dev nD) : (dat0 W c).Φ (Fin.last cfg0.N) ⊢ (Pipeline.scopedRest spec0 c : sProp 𝕄) := .rfl

/-! ## Call 1: the scan of the score columns -/

/-- Window `w`'s block at point `t` of call 1. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The running maximum and its column per row and lane, before point `n`. -/
def scan (c : Dev nD) : (n : ℕ) → n ≤ cfg1.N → Vec F S1024x128 .f32 × Vec F S1024x128 .i32
  | 0, _ => (k1_pay9, k1_pay10)
  | n + 1, hn =>
    (nextMax (scan c n (Nat.le_of_lt hn)).1 (blk1 W c 0 ⟨n, hn⟩) (blk1 W c 1 ⟨n, hn⟩) (blk1 W c 2 ⟨n, hn⟩),
     nextCol (grid1.coords ⟨n, hn⟩) (scan c n (Nat.le_of_lt hn)).1 (scan c n (Nat.le_of_lt hn)).2
       (blk1 W c 0 ⟨n, hn⟩) (blk1 W c 1 ⟨n, hn⟩) (blk1 W c 2 ⟨n, hn⟩))

/-- The scratch buffers of call 1. -/
abbrev accMax : Memref sig .tc .vmem S1024x128 .f32 := Memref.whole cc1_scratch0
/-- The scratch that holds the columns. -/
abbrev accCol : Memref sig .tc .vmem S1024x128 .i32 := Memref.whole cc1_scratch1

/-- The scoped buffers call 1 leaves alone. -/
abbrev others1 (c : Dev nD) : sProp 𝕄 := Pipeline.scopedRestBut spec1 c [cc1_scratch0, cc1_scratch1]

/-- The scoped buffers beside call 1's windows: the two scratch buffers, and the others. -/
theorem rest1_eq (c : Dev nD) : (Pipeline.scopedRest spec1 c : sProp 𝕄)
    = iprop(((∃ d, owns (c : Thread nD τ) accMax fullShare d) ∗ (∃ d, owns (c : Thread nD τ) accCol fullShare d)) ∗ others1 c) := by
  rw [Pipeline.scopedRest_split_of_list spec1 c [cc1_scratch0, cc1_scratch1] (by decide) (by decide)]
  simp only [accMax, accCol, owns_whole]; rfl

/-- The scratch before point `n`: anything before the first point, then the running maximum and its column. -/
def carried1 (c : Dev nD) : (n : ℕ) → n ≤ cfg1.N → sProp 𝕄
  | 0, _ => Pipeline.scopedRest spec1 c
  | n + 1, hn => iprop((owns (c : Thread nD τ) accMax fullShare (scan W c (n + 1) hn).1
      ∗ owns (c : Thread nD τ) accCol fullShare (scan W c (n + 1) hn).2) ∗ others1 c)

/-- Call 1's proof data: nothing reaches the output before the last point, where each row's column does. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => bestCol (grid1.coords t) (scan W c t.val (Nat.le_of_lt t.isLt)).1 (scan W c t.val (Nat.le_of_lt t.isLt)).2
        (blk1 W c 0 t) (blk1 W c 1 t) (blk1 W c 2 t)
  Φ t := carried1 W c t.val (Nat.le_of_lt_succ t.isLt)
  q _ := fullShare
  owed _ := 0

/-- The arrays of call 1 start as the valuation has them. -/
theorem dat1_A (c : Dev nD) (w : Fin cfg1.W) : (dat1 W c).A w = W c (Proc.devRef .tc (Pipeline.arrRef spec1 w)) := by
  dsimp only [dat1]
/-- After a point of call 1 window 0 holds its block as read. -/
theorem dat1_after0 (c : Dev nD) (t : Fin cfg1.N) : (dat1 W c).after 0 t = blk1 W c 0 t := by dsimp only [dat1]
/-- After a point of call 1 window 1 holds its block as read. -/
theorem dat1_after1 (c : Dev nD) (t : Fin cfg1.N) : (dat1 W c).after 1 t = blk1 W c 1 t := by dsimp only [dat1]
/-- After a point of call 1 window 2 holds its block as read. -/
theorem dat1_after2 (c : Dev nD) (t : Fin cfg1.N) : (dat1 W c).after 2 t = blk1 W c 2 t := by dsimp only [dat1]
/-- After a point of call 1 window 3 holds the best columns so far. -/
theorem dat1_after3 (c : Dev nD) (t : Fin cfg1.N) : (dat1 W c).after 3 t = bestCol (grid1.coords t) (scan W c t.val (Nat.le_of_lt t.isLt)).1 (scan W c t.val (Nat.le_of_lt t.isLt)).2
        (blk1 W c 0 t) (blk1 W c 1 t) (blk1 W c 2 t) := by dsimp only [dat1]
/-- Input window 0 of call 1 holds its block at every point. -/
theorem dat1_before0 (c : Dev nD) (t : Fin cfg1.N) (d) : (dat1 W c).before 0 t d = blk1 W c 0 t :=
  ((dat1 W c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
/-- Input window 1 of call 1 holds its block at every point. -/
theorem dat1_before1 (c : Dev nD) (t : Fin cfg1.N) (d) : (dat1 W c).before 1 t d = blk1 W c 1 t :=
  ((dat1 W c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
/-- Input window 2 of call 1 holds its block at every point. -/
theorem dat1_before2 (c : Dev nD) (t : Fin cfg1.N) (d) : (dat1 W c).before 2 t d = blk1 W c 2 t :=
  ((dat1 W c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)

/-- What the body of call 1 is given at a point. -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d)))

/-- What it must return. -/
def post1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t)

/-- The first condition of call 1 holds at the first point only. -/
theorem first1_iff : ∀ t : Fin cfg1.N, first1 (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    simp only [first1, e0]
    word_cmp
   : ∀ t : Fin grid1.N, first1 (grid1.coords t) ↔ t.val = 0)
/-- The last condition of call 1 holds at the last point only. -/
theorem last1_iff : ∀ t : Fin cfg1.N, last1 (grid1.coords t) ↔ t.val = 7 :=
  (fun t => by
    have ht : t.val < 8 := Nat.lt_of_lt_of_eq t.isLt N_1
    have e0 : (grid1.coords t 0).val = t.val / 1 % 8 := Pipeline.Grid.coords_val t 0 (by decide) rfl
    simp only [last1, k1_cond2, e0]
    word_cmp
   : ∀ t : Fin grid1.N, last1 (grid1.coords t) ↔ t.val = 7)
/-- Away from the last point the output is untouched and not written back; at the last it is stored. -/
theorem idle1_out : ∀ t : Fin cfg1.N, ¬last1 (grid1.coords t) → cfg1.idle 3 (grid1.coords t) = true := by decide +kernel
/-- Before the last point the columns are not written out. -/
theorem noflush1_out : ∀ t : Fin cfg1.N, ¬last1 (grid1.coords t) → (cfg1.win 3).flush t = false := by decide +kernel
/-- At the last point the window of the columns is not idle. -/
theorem live1_out : ∀ t : Fin cfg1.N, last1 (grid1.coords t) → cfg1.idle 3 (grid1.coords t) = false := by decide +kernel

/-- What is carried to a later point of call 1. -/
theorem carried1_pos (c : Dev nD) (n : ℕ) (hn : n ≤ cfg1.N) (h : n ≠ 0) :
    carried1 W c n hn = iprop((owns (c : Thread nD τ) accMax fullShare (scan W c n hn).1
      ∗ owns (c : Thread nD τ) accCol fullShare (scan W c n hn).2) ∗ others1 c) := by
  cases n with
  | zero => exact absurd rfl h
  | succ n => rfl

set_option maxHeartbeats 2000000 in
/-- The body of call 1 at any point. -/
theorem body1 (c : Dev nD) (t : Fin cfg1.N) :
    pre1 W c t ⊢ wp frame (wpE (defs₀ (F := F)) Variants.none c none) Set.univ (bodyAt1 t) (fun _ => post1 W c t) := by
  unfold pre1 post1 bodyAt1
  simp only [dat1_before0, dat1_before1, dat1_before2]
  rw [show (dat1 W c).owesAt () t.succ = (dat1 W c).owesAt () t.castSucc from rfl,
    show (dat1 W c).Φ t.castSucc = carried1 W c t.val (Nat.le_of_lt t.isLt) from rfl,
    show (dat1 W c).Φ t.succ = iprop((owns (c : Thread nD τ) accMax fullShare (scan W c (t.val + 1) t.isLt).1
      ∗ owns (c : Thread nD τ) accCol fullShare (scan W c (t.val + 1) t.isLt).2) ∗ others1 c) from rfl]
  rw [show (dat1 W c).leavesExact 0 t = owns (c : Thread nD τ) (st1_0 t) fullShare ((dat1 W c).after 0 t) from rfl, dat1_after0]
  rw [show (dat1 W c).leavesExact 1 t = owns (c : Thread nD τ) (st1_1 t) fullShare ((dat1 W c).after 1 t) from rfl, dat1_after1]
  rw [show (dat1 W c).leavesExact 2 t = owns (c : Thread nD τ) (st1_2 t) fullShare ((dat1 W c).after 2 t) from rfl, dat1_after2]
  by_cases h0 : t.val = 0
  · have hf := (first1_iff t).mpr h0
    have hl : ¬last1 (grid1.coords t) := fun h => by have := (last1_iff t).mp h; omega
    rw [Dat.leavesExact_idle (dat1 W c) 3 t (idle1_out t hl) (noflush1_out t hl)]
    obtain rfl : t = t1_0 := Fin.ext h0
    rw [show carried1 W c (t1_0 : Fin cfg1.N).val (Nat.le_of_lt t1_0.isLt) = Pipeline.scopedRest spec1 c from rfl, rest1_eq]
    iintro ⟨⟨⟨HS0, HS1⟩, HR⟩, Ho, ⟨%d0, H0⟩, ⟨%d1, H1⟩, ⟨%d2, H2⟩, ⟨%d3, H3⟩⟩
    iapply (scan_triple_first c Set.univ (grid1.coords t1_0) _ _ _ _ _ _ _ _ _ (Memref.isWhole_whole _) _ (Memref.isWhole_whole _) hf hl (blk1 W c 0 t1_0) (blk1 W c 1 t1_0) (blk1 W c 2 t1_0))
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    iexists _; iexact H3
  · have hf : ¬first1 (grid1.coords t) := fun h => h0 ((first1_iff t).mp h)
    rw [carried1_pos W c t.val _ h0]
    by_cases h7 : t.val = 7
    · have hl := (last1_iff t).mpr h7
      rw [show (dat1 W c).leavesExact 3 t = owns (c : Thread nD τ) (st1_3 t) fullShare ((dat1 W c).after 3 t) from by
        unfold Dat.leavesExact; rw [live1_out t hl], dat1_after3]
      iintro ⟨⟨⟨HS0, HS1⟩, HR⟩, Ho, ⟨%d0, H0⟩, ⟨%d1, H1⟩, ⟨%d2, H2⟩, ⟨%d3, H3⟩⟩
      iapply (scan_triple_last c Set.univ (grid1.coords t) _ _ _ _ _ _ _ _ _ (Memref.isWhole_whole _) _ (Memref.isWhole_whole _) hf hl (blk1 W c 0 t) (blk1 W c 1 t) (blk1 W c 2 t))
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      iexact H3
    · have hl : ¬last1 (grid1.coords t) := fun h => h7 ((last1_iff t).mp h)
      rw [Dat.leavesExact_idle (dat1 W c) 3 t (idle1_out t hl) (noflush1_out t hl)]
      iintro ⟨⟨⟨HS0, HS1⟩, HR⟩, Ho, ⟨%d0, H0⟩, ⟨%d1, H1⟩, ⟨%d2, H2⟩, ⟨%d3, H3⟩⟩
      iapply (scan_triple_mid c Set.univ (grid1.coords t) _ _ _ _ _ _ _ _ _ (Memref.isWhole_whole _) _ (Memref.isWhole_whole _) hf hl (blk1 W c 0 t) (blk1 W c 1 t) (blk1 W c 2 t))
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      iexists _; iexact H3

/-- The body that a point of call 1 runs is the printed one at that point's slots. -/
theorem row1 (t : Fin cfg1.N) : defs₀ (F := F) .tc cfg1.body (cfg1.bodyArgs t (cfg1.slots t)) = bodyAt1 t := by
  unfold defs₀; rw [Defs.onTc_tc]

/-- Call 1's body obligation, at every point. -/
theorem obligation1 (c : Dev nD) : BodyObligation (dat1 (F := F) W c) (defs₀ (F := F)) Variants.none () Set.univ := fun t => by
  rw [bigSep_W1, bigSep_W1, row1]
  exact triple_restated (body1 W c t) rfl .rfl fun _ => .rfl

/-- After the last point the scratch is given back. -/
theorem out1 (c : Dev nD) : (dat1 W c).Φ (Fin.last cfg1.N) ⊢ (Pipeline.scopedRest spec1 c : sProp 𝕄) := by
  rw [show (dat1 W c).Φ (Fin.last cfg1.N) = carried1 W c cfg1.N le_rfl from rfl,
    carried1_pos W c _ _ (by have : cfg1.N = 8 := N_1; omega), rest1_eq]
  iintro ⟨⟨HS0, HS1⟩, HR⟩
  isplitl [HS0 HS1]
  · isplitl [HS0]
    · iexists _; iexact HS0
    iexists _; iexact HS1
  iexact HR

/-! ## Call 2: the marks, the blocks of the result and the count -/

/-- Window `w`'s block at point `t` of call 2. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The scratch buffer of call 2. -/
abbrev accMark : Memref sig .tc .vmem S8192 .f32 := Memref.whole cc2_scratch0

/-- The scoped buffers call 2 leaves alone. -/
abbrev others2 (c : Dev nD) : sProp 𝕄 := Pipeline.scopedRestBut spec2 c [cc2_scratch0]

/-- The scoped buffers beside call 2's windows: its scratch buffer, and the others. -/
theorem rest2_eq (c : Dev nD) : (Pipeline.scopedRest spec2 c : sProp 𝕄)
    = iprop((∃ d, owns (c : Thread nD τ) accMark fullShare d) ∗ others2 c) := by
  rw [Pipeline.scopedRest_split_of_list spec2 c [cc2_scratch0] (by decide) (by decide)]
  simp only [accMark, owns_whole]; rfl

/-- The marks and the count of call 2, from its first point's blocks. -/
abbrev marksOf (c : Dev nD) : Vec F S8192 .f32 := marks (blk2 W c 0 t2_0)
/-- The count, of the ages at the first point. -/
abbrev countOf (c : Dev nD) : FVec F S1x1 .f32 := k2_pay2 (blk2 W c 2 t2_0)

/-- The scratch before point `n`: anything before the first point, then the marks. -/
def carried2 (c : Dev nD) : (n : ℕ) → sProp 𝕄
  | 0 => Pipeline.scopedRest spec2 c
  | n + 1 => iprop(owns (c : Thread nD τ) accMark fullShare (marksOf W c) ∗ others2 c)

/-- Call 2's proof data. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => k2_pay3 (blk2 W c 1 t) (marksOf W c)
    | ⟨4, _⟩ => countOf W c
  Φ t := carried2 W c t.val
  q _ := fullShare
  owed _ := 0

/-- The arrays of call 2 start as the valuation has them. -/
theorem dat2_A (c : Dev nD) (w : Fin cfg2.W) : (dat2 W c).A w = W c (Proc.devRef .tc (Pipeline.arrRef spec2 w)) := by
  dsimp only [dat2]
/-- After a point of call 2 window 0 holds its block as read. -/
theorem dat2_after0 (c : Dev nD) (t : Fin cfg2.N) : (dat2 W c).after 0 t = blk2 W c 0 t := by dsimp only [dat2]
/-- After a point of call 2 window 1 holds its block as read. -/
theorem dat2_after1 (c : Dev nD) (t : Fin cfg2.N) : (dat2 W c).after 1 t = blk2 W c 1 t := by dsimp only [dat2]
/-- After a point of call 2 window 2 holds its block as read. -/
theorem dat2_after2 (c : Dev nD) (t : Fin cfg2.N) : (dat2 W c).after 2 t = blk2 W c 2 t := by dsimp only [dat2]
/-- After a point of call 2 window 3 holds its block of the result. -/
theorem dat2_after3 (c : Dev nD) (t : Fin cfg2.N) : (dat2 W c).after 3 t = k2_pay3 (blk2 W c 1 t) (marksOf W c) := by dsimp only [dat2]
/-- After a point of call 2 window 4 holds the count. -/
theorem dat2_after4 (c : Dev nD) (t : Fin cfg2.N) : (dat2 W c).after 4 t = countOf W c := by dsimp only [dat2]
/-- Input window 0 of call 2 holds its block at every point. -/
theorem dat2_before0 (c : Dev nD) (t : Fin cfg2.N) (d) : (dat2 W c).before 0 t d = blk2 W c 0 t :=
  ((dat2 W c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
/-- Input window 1 of call 2 holds its block at every point. -/
theorem dat2_before1 (c : Dev nD) (t : Fin cfg2.N) (d) : (dat2 W c).before 1 t d = blk2 W c 1 t :=
  ((dat2 W c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)
/-- Input window 2 of call 2 holds its block at every point. -/
theorem dat2_before2 (c : Dev nD) (t : Fin cfg2.N) (d) : (dat2 W c).before 2 t d = blk2 W c 2 t :=
  ((dat2 W c).before_in_eq_fetched 2 rfl (fun _ => rfl) (fun _ _ _ => rfl)
    (fun t => by rw [dat2_after2]; unfold Dat.blockOf blk2; rw [dat2_A]; try rfl) t d).trans
    (by unfold Dat.fetched Dat.blockOf blk2; rw [dat2_A]; try rfl)

/-- What the body of call 2 is given at a point. -/
def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d)))

/-- What it must return. -/
def post2 (c : Dev nD) (t : Fin cfg2.N) : sProp 𝕄 :=
  iprop((dat2 W c).Φ t.succ ∗ (dat2 W c).owesAt () t.succ
    ∗ (dat2 W c).leavesExact 0 t
    ∗ (dat2 W c).leavesExact 1 t
    ∗ (dat2 W c).leavesExact 2 t
    ∗ (dat2 W c).leavesExact 3 t
    ∗ (dat2 W c).leavesExact 4 t)

/-- The first condition of call 2 holds at the first point only. -/
theorem first2_iff : ∀ t : Fin cfg2.N, first2 (grid2.coords t) ↔ t.val = 0 :=
  (fun t => by
    have ht : t.val < 4 := Nat.lt_of_lt_of_eq t.isLt N_2
    have e0 : (grid2.coords t 0).val = t.val / 1 % 4 := Pipeline.Grid.coords_val t 0 (by decide) rfl
    simp only [first2, k2_cond1, e0]
    word_cmp
   : ∀ t : Fin grid2.N, first2 (grid2.coords t) ↔ t.val = 0)
/-- After the first point the window of the count is idle. -/
theorem idle2_count : ∀ t : Fin cfg2.N, ¬first2 (grid2.coords t) → cfg2.idle 4 (grid2.coords t) = true := by decide +kernel
/-- At the first point the window of the count is not idle. -/
theorem live2_count : ∀ t : Fin cfg2.N, first2 (grid2.coords t) → cfg2.idle 4 (grid2.coords t) = false := by decide +kernel
/-- The window of the count is never fetched. -/
theorem nofetch2_count : ∀ t : Fin cfg2.N, (cfg2.win 4).fetch t = false := fun _ => rfl

/-- After the first point the count's buffer holds the count until it is written back. -/
theorem dat2_before4 (c : Dev nD) (d) : ∀ (n : ℕ) (hn : n + 1 < cfg2.N), (dat2 W c).before 4 ⟨n + 1, hn⟩ d = countOf W c
  | 0, hn => by
    rw [(dat2 W c).before_of_pos 4 ⟨0 + 1, hn⟩ (by simp) (nofetch2_count _) d]
    have h0 : (cfg2.win 4).flush (⟨0, by omega⟩ : Fin cfg2.N) = false := by
      rw [Bool.eq_false_iff]; intro h; have := (flush2_4 _).mp h; simp at this
    refine (if_neg (by simpa using h0)).trans ?_
    unfold Dat.left
    rw [show cfg2.idle 4 (cfg2.grid.coords (⟨(⟨0 + 1, hn⟩ : Fin cfg2.N).val - 1, by simp only; omega⟩ : Fin cfg2.N)) = false from live2_count _ ((first2_iff _).mpr rfl)]
    rfl
  | n + 1, hn => by
    rw [(dat2 W c).before_of_pos 4 ⟨n + 1 + 1, hn⟩ (by simp) (nofetch2_count _) d]
    have hN : cfg2.N = 4 := N_2
    have h0 : (cfg2.win 4).flush (⟨n + 1, by omega⟩ : Fin cfg2.N) = false := by
      rw [Bool.eq_false_iff]; intro h; have := (flush2_4 _).mp h; simp only at this; omega
    refine (if_neg (by simpa using h0)).trans ?_
    unfold Dat.left
    rw [show cfg2.idle 4 (cfg2.grid.coords (⟨(⟨n + 1 + 1, hn⟩ : Fin cfg2.N).val - 1, by simp only; omega⟩ : Fin cfg2.N)) = true from
      idle2_count _ (fun h => by have := (first2_iff _).mp h; simp at this)]
    exact dat2_before4 c d n (by omega)

set_option maxHeartbeats 2000000 in
/-- The body of call 2 at any point. -/
theorem body2 (c : Dev nD) (t : Fin cfg2.N) :
    pre2 W c t ⊢ wp frame (wpE (defs₀ (F := F)) Variants.none c none) Set.univ (bodyAt2 t) (fun _ => post2 W c t) := by
  unfold pre2 post2 bodyAt2
  simp only [dat2_before0, dat2_before1, dat2_before2]
  rw [show (dat2 W c).owesAt () t.succ = (dat2 W c).owesAt () t.castSucc from rfl,
    show (dat2 W c).Φ t.castSucc = carried2 W c t.val from rfl,
    show (dat2 W c).Φ t.succ = iprop(owns (c : Thread nD τ) accMark fullShare (marksOf W c) ∗ others2 c) from rfl]
  rw [show (dat2 W c).leavesExact 0 t = owns (c : Thread nD τ) (st2_0 t) fullShare ((dat2 W c).after 0 t) from rfl, dat2_after0]
  rw [show (dat2 W c).leavesExact 1 t = owns (c : Thread nD τ) (st2_1 t) fullShare ((dat2 W c).after 1 t) from rfl, dat2_after1]
  rw [show (dat2 W c).leavesExact 2 t = owns (c : Thread nD τ) (st2_2 t) fullShare ((dat2 W c).after 2 t) from rfl, dat2_after2]
  rw [show (dat2 W c).leavesExact 3 t = owns (c : Thread nD τ) (st2_3 t) fullShare ((dat2 W c).after 3 t) from rfl, dat2_after3]
  by_cases h0 : t.val = 0
  · have hf := (first2_iff t).mpr h0
    rw [show (dat2 W c).leavesExact 4 t = owns (c : Thread nD τ) (st2_4 t) fullShare ((dat2 W c).after 4 t) from by
      unfold Dat.leavesExact; rw [live2_count t hf], dat2_after4]
    obtain rfl : t = t2_0 := Fin.ext h0
    rw [show carried2 W c (t2_0 : Fin cfg2.N).val = Pipeline.scopedRest spec2 c from rfl, rest2_eq]
    iintro ⟨⟨HS, HR⟩, Ho, ⟨%d0, H0⟩, ⟨%d1, H1⟩, ⟨%d2, H2⟩, ⟨%d3, H3⟩, ⟨%d4, H4⟩⟩
    iapply (mark_triple_first c Set.univ (grid2.coords t2_0) _ _ _ _ _ _ _ _ _ _ _ (Memref.isWhole_whole _) hf (blk2 W c 0 t2_0) (blk2 W c 1 t2_0) (blk2 W c 2 t2_0))
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexact H4
  · have hf : ¬first2 (grid2.coords t) := fun h => h0 ((first2_iff t).mp h)
    have hb : ∀ d, (dat2 W c).before 4 t d = countOf W c := fun d => by
      obtain ⟨n, hn⟩ := t
      cases n with
      | zero => exact absurd rfl h0
      | succ n => exact dat2_before4 W c d n hn
    have hpost : owns (c : Thread nD τ) (st2_4 t) fullShare (countOf W c) ⊢ (dat2 W c).leavesExact 4 t := by
      unfold Dat.leavesExact
      rw [idle2_count t hf]
      cases (cfg2.win 4).flush t with
      | false => dsimp only; simp only [hb]; iintro H; iexists (countOf W c); iexact H
      | true => dsimp only; rw [dat2_after4]
    simp only [hb]
    rw [show carried2 W c t.val = iprop(owns (c : Thread nD τ) accMark fullShare (marksOf W c) ∗ others2 c) from by
      obtain ⟨n, hn⟩ := t
      cases n with
      | zero => exact absurd rfl h0
      | succ n => rfl]
    iintro ⟨⟨HS, HR⟩, Ho, ⟨%d0, H0⟩, ⟨%d1, H1⟩, ⟨%d2, H2⟩, ⟨%d3, H3⟩, ⟨%d4, H4⟩⟩
    iapply (mark_triple_rest c Set.univ (grid2.coords t) _ _ _ _ _ _ _ _ _ _ _ (Memref.isWhole_whole _) hf (blk2 W c 0 t) (blk2 W c 1 t) (blk2 W c 2 t) (countOf W c) (marksOf W c))
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iapply hpost; iexact H4

/-- The body that a point of call 2 runs is the printed one at that point's slots. -/
theorem row2 (t : Fin cfg2.N) : defs₀ (F := F) .tc cfg2.body (cfg2.bodyArgs t (cfg2.slots t)) = bodyAt2 t := by
  unfold defs₀; rw [Defs.onTc_tc]

/-- Call 2's body obligation, at every point. -/
theorem obligation2 (c : Dev nD) : BodyObligation (dat2 (F := F) W c) (defs₀ (F := F)) Variants.none () Set.univ := fun t => by
  rw [bigSep_W2, bigSep_W2, row2]
  exact triple_restated (body2 W c t) rfl .rfl fun _ => .rfl

/-- After the last point the scratch is given back. -/
theorem out2 (c : Dev nD) : (dat2 W c).Φ (Fin.last cfg2.N) ⊢ (Pipeline.scopedRest spec2 c : sProp 𝕄) := by
  rw [show (dat2 W c).Φ (Fin.last cfg2.N) = iprop(owns (c : Thread nD τ) accMark fullShare (marksOf W c) ∗ others2 c) from rfl, rest2_eq]
  iintro ⟨HS, HR⟩
  isplitl [HS]
  · iexists _; iexact HS
  iexact HR

end Cert.KernelIdeal.Whole

end
-- ==== Proof.IdealRun.lean ====
/- The run of the whole program: the three kernel calls' region records over the buffers held between them, and the
   theorem that every execution terminates with the arguments as launched, the results at the last valuation, and every
   semaphore counter at zero. -/
module

public import proofs.«01_k».proof.Proof.IdealData
public import proofs.«01_k».proof.Proof.Gen.KernelIdeal.Regions
public import Idealize.ShloMosaic.Lib.Pipeline.RegionArrays

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the calls -/

/-- The buffers after call 0: the normalised images are written. -/
def X2 : Entry F := fun c => Function.update (V1 m c) main_call0_v1 ((dat0 (V1 m) c).arrAt 1 cfg0.N)
/-- After call 1: the winners' columns are written. -/
def X3 : Entry F := fun c => Function.update (X2 m c) main_call0_v2 ((dat1 (X2 m) c).arrAt 3 cfg1.N)
/-- After call 2: the result and the count are written. -/
def X4 : Entry F := fun c => Function.update (Function.update (X3 m c) main_v0_0 ((dat2 (X3 m) c).arrAt 3 cfg2.N))
  main_call0_v3_1 ((dat2 (X3 m) c).arrAt 4 cfg2.N)

/-- What each call leaves, by the item it is. -/
def outs : Outs (F := F) := fun J r c => if J = 2 then X2 m c r else if J = 3 then X3 m c r else X4 m c r

/-- The valuation after call 0 is the regions' own. -/
theorem V2_eq (c : Dev nD) : V2 m (outs m) c = X2 m c := by
  show Function.update (V1 m c) main_call0_v1 (X2 m c main_call0_v1) = X2 m c
  unfold X2; rw [Function.update_self]

/-- The valuation after call 1 is the regions' own. -/
theorem V3_eq (c : Dev nD) : V3 m (outs m) c = X3 m c := by
  show Function.update (V2 m (outs m) c) main_call0_v2 (X3 m c main_call0_v2) = X3 m c
  rw [V2_eq]; unfold X3; rw [Function.update_self]

/-- The valuation after call 2 is the regions' own. -/
theorem V4_eq (c : Dev nD) : V4 m (outs m) c = X4 m c := by
  show Function.update (Function.update (V3 m (outs m) c) main_v0_0 (X4 m c main_v0_0)) main_call0_v3_1 (X4 m c main_call0_v3_1) = X4 m c
  rw [V3_eq]; unfold X4
  rw [Function.update_self, Function.update_of_ne (StableHlo.devRef_ne_of_ne (by decide) : (Proc.devRef .tc main_v0_0 : DevRef τ sig) ≠ Proc.devRef .tc main_call0_v3_1),
    Function.update_self]

/-! ## The region records -/

/-- The three calls' proof data. -/
def dats : (p : Fin 3) → (c : Dev nD) → Dat τ (Elt F) Unit ℕ (UR sig nD τ) ℕ (cfgs p) c
  | ⟨0, _⟩ => fun c => dat0 (V1 m) c
  | ⟨1, _⟩ => fun c => dat1 (X2 m) c
  | ⟨2, _⟩ => fun c => dat2 (X3 m) c

/-- The one level, held on the compute cores. -/
abbrev lvls : GSem nD τ sig → Finset Unit := fun g => if g.1.2 = .tc then {()} else ∅
/-- Every semaphore is at level zero. -/
abbrev lvl : GSem nD τ sig → Unit → ℕ := fun _ _ => 0

/-- What rides beside the buffers: the core owes nothing. -/
abbrev rest : Fin 4 → Dev nD → sProp 𝕄 := fun _ c => iprop(∃ W, owes (c : Thread nD τ) (0 : CellTallies nD τ sig Unit) W)

/-- Every wait of a call sits at the one level. -/
theorem cut (p : Fin 3) : Pipeline.LevelCut (pcfgs (F := F)) adm () lvls lvl p (fun _ => 0) (fun _ => 0) where
  hι c w s := by simp [lvls]
  hιb c w s := le_rfl
  hD c g i h := absurd h (lt_irrefl _)

/-- The unscoped buffers no window of call `p` names. -/
abbrev beside (p : Fin 3) (W : Entry F) (c : Dev nD) : sProp 𝕄 :=
  StableHlo.held (c : Thread nD τ) (Pipeline.ucRefs τ sig \ Pipeline.arrRefs (pcfgs (F := F) p).spec) (W c)

/-- After call 0 its windows' arrays are those of the next buffers. -/
theorem exit0 (c : Dev nD) : ∀ w : Fin cfg0.W, (dat0 (V1 m) c).arrAt w cfg0.N = X2 m c (Proc.devRef .tc (Pipeline.arrRef spec0 w))
  | ⟨0, _⟩ => by
    show (dat0 (V1 m) c).arrAt 0 cfg0.N = X2 m c (Proc.devRef .tc main_call0_v0)
    unfold X2
    rw [Function.update_of_ne (StableHlo.devRef_ne_of_ne (by decide) : (Proc.devRef .tc main_call0_v0 : DevRef τ sig) ≠ Proc.devRef .tc main_call0_v1)]
    exact ((dat0 (V1 m) c).arrAt_in 0 rfl cfg0.N).trans (dat0_A (V1 m) c 0)
  | ⟨1, _⟩ => by
    show (dat0 (V1 m) c).arrAt 1 cfg0.N = X2 m c (Proc.devRef .tc main_call0_v1)
    unfold X2
    rw [Function.update_self]

/-- The buffers beside call 0's windows are as before. -/
theorem beside0 (c : Dev nD) : beside 0 (X2 m) c = beside 0 (V1 m) c := by
  unfold beside StableHlo.held
  refine bigSep_congr fun b hb => ?_
  have hn : b ∉ Pipeline.arrRefs (τ := τ) spec0 := (Finset.mem_sdiff.mp hb).2
  have hmem (w : Fin cfg0.W) : Proc.devRef (τ := τ) .tc (Pipeline.arrRef spec0 w) ∈ Pipeline.arrRefs (τ := τ) spec0 :=
    Finset.mem_map.mpr ⟨_, Finset.mem_image.mpr ⟨w, Finset.mem_univ _, rfl⟩, rfl⟩
  have h1 : b ≠ Proc.devRef .tc main_call0_v1 := fun e => hn (e ▸ hmem 1)
  unfold X2
  rw [Function.update_of_ne h1]

/-- After call 1 its windows' arrays are those of the next buffers. -/
theorem exit1 (c : Dev nD) : ∀ w : Fin cfg1.W, (dat1 (X2 m) c).arrAt w cfg1.N = X3 m c (Proc.devRef .tc (Pipeline.arrRef spec1 w))
  | ⟨0, _⟩ => by
    show (dat1 (X2 m) c).arrAt 0 cfg1.N = X3 m c (Proc.devRef .tc main_call0_v1)
    unfold X3
    rw [Function.update_of_ne (StableHlo.devRef_ne_of_ne (by decide) : (Proc.devRef .tc main_call0_v1 : DevRef τ sig) ≠ Proc.devRef .tc main_call0_v2)]
    exact ((dat1 (X2 m) c).arrAt_in 0 rfl cfg1.N).trans (dat1_A (X2 m) c 0)
  | ⟨1, _⟩ => by
    show (dat1 (X2 m) c).arrAt 1 cfg1.N = X3 m c (Proc.devRef .tc main_arg3)
    unfold X3
    rw [Function.update_of_ne (StableHlo.devRef_ne_of_ne (by decide) : (Proc.devRef .tc main_arg3 : DevRef τ sig) ≠ Proc.devRef .tc main_call0_v2)]
    exact ((dat1 (X2 m) c).arrAt_in 1 rfl cfg1.N).trans (dat1_A (X2 m) c 1)
  | ⟨2, _⟩ => by
    show (dat1 (X2 m) c).arrAt 2 cfg1.N = X3 m c (Proc.devRef .tc main_arg6)
    unfold X3
    rw [Function.update_of_ne (StableHlo.devRef_ne_of_ne (by decide) : (Proc.devRef .tc main_arg6 : DevRef τ sig) ≠ Proc.devRef .tc main_call0_v2)]
    exact ((dat1 (X2 m) c).arrAt_in 2 rfl cfg1.N).trans (dat1_A (X2 m) c 2)
  | ⟨3, _⟩ => by
    show (dat1 (X2 m) c).arrAt 3 cfg1.N = X3 m c (Proc.devRef .tc main_call0_v2)
    unfold X3
    rw [Function.update_self]

/-- The buffers beside call 1's windows are as before. -/
theorem beside1 (c : Dev nD) : beside 1 (X3 m) c = beside 1 (X2 m) c := by
  unfold beside StableHlo.held
  refine bigSep_congr fun b hb => ?_
  have hn : b ∉ Pipeline.arrRefs (τ := τ) spec1 := (Finset.mem_sdiff.mp hb).2
  have hmem (w : Fin cfg1.W) : Proc.devRef (τ := τ) .tc (Pipeline.arrRef spec1 w) ∈ Pipeline.arrRefs (τ := τ) spec1 :=
    Finset.mem_map.mpr ⟨_, Finset.mem_image.mpr ⟨w, Finset.mem_univ _, rfl⟩, rfl⟩
  have h3 : b ≠ Proc.devRef .tc main_call0_v2 := fun e => hn (e ▸ hmem 3)
  unfold X3
  rw [Function.update_of_ne h3]

/-- After call 2 its windows' arrays are those of the next buffers. -/
theorem exit2 (c : Dev nD) : ∀ w : Fin cfg2.W, (dat2 (X3 m) c).arrAt w cfg2.N = X4 m c (Proc.devRef .tc (Pipeline.arrRef spec2 w))
  | ⟨0, _⟩ => by
    show (dat2 (X3 m) c).arrAt 0 cfg2.N = X4 m c (Proc.devRef .tc main_call0_v2)
    unfold X4
    rw [Function.update_of_ne (StableHlo.devRef_ne_of_ne (by decide) : (Proc.devRef .tc main_call0_v2 : DevRef τ sig) ≠ Proc.devRef .tc main_call0_v3_1), Function.update_of_ne (StableHlo.devRef_ne_of_ne (by decide) : (Proc.devRef .tc main_call0_v2 : DevRef τ sig) ≠ Proc.devRef .tc main_v0_0)]
    exact ((dat2 (X3 m) c).arrAt_in 0 rfl cfg2.N).trans (dat2_A (X3 m) c 0)
  | ⟨1, _⟩ => by
    show (dat2 (X3 m) c).arrAt 1 cfg2.N = X4 m c (Proc.devRef .tc main_arg5)
    unfold X4
    rw [Function.update_of_ne (StableHlo.devRef_ne_of_ne (by decide) : (Proc.devRef .tc main_arg5 : DevRef τ sig) ≠ Proc.devRef .tc main_call0_v3_1), Function.update_of_ne (StableHlo.devRef_ne_of_ne (by decide) : (Proc.devRef .tc main_arg5 : DevRef τ sig) ≠ Proc.devRef .tc main_v0_0)]
    exact ((dat2 (X3 m) c).arrAt_in 1 rfl cfg2.N).trans (dat2_A (X3 m) c 1)
  | ⟨2, _⟩ => by
    show (dat2 (X3 m) c).arrAt 2 cfg2.N = X4 m c (Proc.devRef .tc main_arg6)
    unfold X4
    rw [Function.update_of_ne (StableHlo.devRef_ne_of_ne (by decide) : (Proc.devRef .tc main_arg6 : DevRef τ sig) ≠ Proc.devRef .tc main_call0_v3_1), Function.update_of_ne (StableHlo.devRef_ne_of_ne (by decide) : (Proc.devRef .tc main_arg6 : DevRef τ sig) ≠ Proc.devRef .tc main_v0_0)]
    exact ((dat2 (X3 m) c).arrAt_in 2 rfl cfg2.N).trans (dat2_A (X3 m) c 2)
  | ⟨3, _⟩ => by
    show (dat2 (X3 m) c).arrAt 3 cfg2.N = X4 m c (Proc.devRef .tc main_v0_0)
    unfold X4
    rw [Function.update_of_ne (StableHlo.devRef_ne_of_ne (by decide) : (Proc.devRef .tc main_v0_0 : DevRef τ sig) ≠ Proc.devRef .tc main_call0_v3_1), Function.update_self]
  | ⟨4, _⟩ => by
    show (dat2 (X3 m) c).arrAt 4 cfg2.N = X4 m c (Proc.devRef .tc main_call0_v3_1)
    unfold X4
    rw [Function.update_self]

/-- The buffers beside call 2's windows are as before. -/
theorem beside2 (c : Dev nD) : beside 2 (X4 m) c = beside 2 (X3 m) c := by
  unfold beside StableHlo.held
  refine bigSep_congr fun b hb => ?_
  have hn : b ∉ Pipeline.arrRefs (τ := τ) spec2 := (Finset.mem_sdiff.mp hb).2
  have hmem (w : Fin cfg2.W) : Proc.devRef (τ := τ) .tc (Pipeline.arrRef spec2 w) ∈ Pipeline.arrRefs (τ := τ) spec2 :=
    Finset.mem_map.mpr ⟨_, Finset.mem_image.mpr ⟨w, Finset.mem_univ _, rfl⟩, rfl⟩
  have h3 : b ≠ Proc.devRef .tc main_v0_0 := fun e => hn (e ▸ hmem 3)
  have h4 : b ≠ Proc.devRef .tc main_call0_v3_1 := fun e => hn (e ▸ hmem 4)
  unfold X4
  rw [Function.update_of_ne h4, Function.update_of_ne h3]

/-- Call 0 as a segment. -/
def R0 : RegionSeg (pcfgs (F := F)) adm (dats m) () defs₀ Variants.none lvls lvl 0 :=
  RegionSeg.ofHeld (pcfgs (F := F)) adm (dats m) () defs₀ Variants.none lvls lvl 0 (fun _ => 0) (fun _ => BI.emp) (fun _ => BI.emp)
    (launch0).toP rfl (fun c => (obligation0 (V1 m) c).loose) (fun _ _ => rfl) (fun _ => rfl)
    (fun c => (dat0 (V1 m) c).share_full fun _ => rfl)
    (fun c => by
      show iprop((Pipeline.scopedRest spec0 c : sProp 𝕄) ∗ BI.emp) ⊢ (Pipeline.scopedRest spec0 c : sProp 𝕄)
      iintro ⟨H, -⟩; iexact H)
    (fun c => by
      show (dat0 (V1 m) c).Φ (Fin.last cfg0.N) ⊢ iprop((Pipeline.scopedRest spec0 c : sProp 𝕄) ∗ BI.emp)
      refine (out0 (V1 m) c).trans ?_
      iintro H; isplitl [H]; · iexact H
      iempintro)
    (fun _ => 0) (cut 0) (beside 0 (V1 m)) (V1 m) (X2 m)
    (fun c w => dat0_A (V1 m) c w) (exit0 m)

/-- The buffers before call 0 are its arrays and those beside them. -/
theorem hpre0 (c : Dev nD) : iprop(StableHlo.held (c : Thread nD τ) (Pipeline.ucRefs τ sig) (V1 m c) ∗ rest 0 c) ⊢ (R0 m).pre c := by
  show _ ⊢ iprop(StableHlo.held (c : Thread nD τ) (Pipeline.arrRefs spec0) (V1 m c) ∗ BI.emp ∗ beside 0 (V1 m) c
    ∗ ∃ Wd, owes (c : Thread nD τ) (0 : CellTallies nD τ sig Unit) Wd)
  rw [StableHlo.held_sub_split (c : Thread nD τ) (Pipeline.arrRefs_sub_ucRefs (τ := τ) spec0 (by decide)) (V1 m c)]
  iintro ⟨⟨Ha, Hb⟩, HO⟩
  isplitl [Ha]; · iexact Ha
  isplitr; · iempintro
  isplitl [Hb]; · iexact Hb
  iexact HO

/-- The arrays after call 0, with those beside them, are the buffers it leaves. -/
theorem hpost0 (c : Dev nD) : (R0 m).post c ⊢ iprop(StableHlo.held (c : Thread nD τ) (Pipeline.ucRefs τ sig) (X2 m c) ∗ rest 1 c) := by
  show iprop(StableHlo.held (c : Thread nD τ) (Pipeline.arrRefs spec0) (X2 m c) ∗ BI.emp ∗ beside 0 (V1 m) c
    ∗ ∃ Wd, owes (c : Thread nD τ) (0 : CellTallies nD τ sig Unit) Wd) ⊢ _
  rw [StableHlo.held_sub_split (c : Thread nD τ) (Pipeline.arrRefs_sub_ucRefs (τ := τ) spec0 (by decide)) (X2 m c), ← beside0]
  iintro ⟨Ha, -, Hb, HO⟩
  isplitl [Ha Hb]
  · isplitl [Ha]; · iexact Ha
    iexact Hb
  iexact HO

/-- Call 1 as a segment. -/
def R1 : RegionSeg (pcfgs (F := F)) adm (dats m) () defs₀ Variants.none lvls lvl 1 :=
  RegionSeg.ofHeld (pcfgs (F := F)) adm (dats m) () defs₀ Variants.none lvls lvl 1 (fun _ => 0) (fun _ => BI.emp) (fun _ => BI.emp)
    (launch1).toP rfl (fun c => (obligation1 (X2 m) c).loose) (fun _ _ => rfl) (fun _ => rfl)
    (fun c => (dat1 (X2 m) c).share_full fun _ => rfl)
    (fun c => by
      show iprop((Pipeline.scopedRest spec1 c : sProp 𝕄) ∗ BI.emp) ⊢ (Pipeline.scopedRest spec1 c : sProp 𝕄)
      iintro ⟨H, -⟩; iexact H)
    (fun c => by
      show (dat1 (X2 m) c).Φ (Fin.last cfg1.N) ⊢ iprop((Pipeline.scopedRest spec1 c : sProp 𝕄) ∗ BI.emp)
      refine (out1 (X2 m) c).trans ?_
      iintro H; isplitl [H]; · iexact H
      iempintro)
    (fun _ => 0) (cut 1) (beside 1 (X2 m)) (X2 m) (X3 m)
    (fun c w => dat1_A (X2 m) c w) (exit1 m)

/-- The buffers before call 1 are its arrays and those beside them. -/
theorem hpre1 (c : Dev nD) : iprop(StableHlo.held (c : Thread nD τ) (Pipeline.ucRefs τ sig) (X2 m c) ∗ rest 1 c) ⊢ (R1 m).pre c := by
  show _ ⊢ iprop(StableHlo.held (c : Thread nD τ) (Pipeline.arrRefs spec1) (X2 m c) ∗ BI.emp ∗ beside 1 (X2 m) c
    ∗ ∃ Wd, owes (c : Thread nD τ) (0 : CellTallies nD τ sig Unit) Wd)
  rw [StableHlo.held_sub_split (c : Thread nD τ) (Pipeline.arrRefs_sub_ucRefs (τ := τ) spec1 (by decide)) (X2 m c)]
  iintro ⟨⟨Ha, Hb⟩, HO⟩
  isplitl [Ha]; · iexact Ha
  isplitr; · iempintro
  isplitl [Hb]; · iexact Hb
  iexact HO

/-- The arrays after call 1, with those beside them, are the buffers it leaves. -/
theorem hpost1 (c : Dev nD) : (R1 m).post c ⊢ iprop(StableHlo.held (c : Thread nD τ) (Pipeline.ucRefs τ sig) (X3 m c) ∗ rest 2 c) := by
  show iprop(StableHlo.held (c : Thread nD τ) (Pipeline.arrRefs spec1) (X3 m c) ∗ BI.emp ∗ beside 1 (X2 m) c
    ∗ ∃ Wd, owes (c : Thread nD τ) (0 : CellTallies nD τ sig Unit) Wd) ⊢ _
  rw [StableHlo.held_sub_split (c : Thread nD τ) (Pipeline.arrRefs_sub_ucRefs (τ := τ) spec1 (by decide)) (X3 m c), ← beside1]
  iintro ⟨Ha, -, Hb, HO⟩
  isplitl [Ha Hb]
  · isplitl [Ha]; · iexact Ha
    iexact Hb
  iexact HO

/-- Call 2 as a segment. -/
def R2 : RegionSeg (pcfgs (F := F)) adm (dats m) () defs₀ Variants.none lvls lvl 2 :=
  RegionSeg.ofHeld (pcfgs (F := F)) adm (dats m) () defs₀ Variants.none lvls lvl 2 (fun _ => 0) (fun _ => BI.emp) (fun _ => BI.emp)
    (launch2).toP rfl (fun c => (obligation2 (X3 m) c).loose) (fun _ _ => rfl) (fun _ => rfl)
    (fun c => (dat2 (X3 m) c).share_full fun _ => rfl)
    (fun c => by
      show iprop((Pipeline.scopedRest spec2 c : sProp 𝕄) ∗ BI.emp) ⊢ (Pipeline.scopedRest spec2 c : sProp 𝕄)
      iintro ⟨H, -⟩; iexact H)
    (fun c => by
      show (dat2 (X3 m) c).Φ (Fin.last cfg2.N) ⊢ iprop((Pipeline.scopedRest spec2 c : sProp 𝕄) ∗ BI.emp)
      refine (out2 (X3 m) c).trans ?_
      iintro H; isplitl [H]; · iexact H
      iempintro)
    (fun _ => 0) (cut 2) (beside 2 (X3 m)) (X3 m) (X4 m)
    (fun c w => dat2_A (X3 m) c w) (exit2 m)

/-- The buffers before call 2 are its arrays and those beside them. -/
theorem hpre2 (c : Dev nD) : iprop(StableHlo.held (c : Thread nD τ) (Pipeline.ucRefs τ sig) (X3 m c) ∗ rest 2 c) ⊢ (R2 m).pre c := by
  show _ ⊢ iprop(StableHlo.held (c : Thread nD τ) (Pipeline.arrRefs spec2) (X3 m c) ∗ BI.emp ∗ beside 2 (X3 m) c
    ∗ ∃ Wd, owes (c : Thread nD τ) (0 : CellTallies nD τ sig Unit) Wd)
  rw [StableHlo.held_sub_split (c : Thread nD τ) (Pipeline.arrRefs_sub_ucRefs (τ := τ) spec2 (by decide)) (X3 m c)]
  iintro ⟨⟨Ha, Hb⟩, HO⟩
  isplitl [Ha]; · iexact Ha
  isplitr; · iempintro
  isplitl [Hb]; · iexact Hb
  iexact HO

/-- The arrays after call 2, with those beside them, are the buffers it leaves. -/
theorem hpost2 (c : Dev nD) : (R2 m).post c ⊢ iprop(StableHlo.held (c : Thread nD τ) (Pipeline.ucRefs τ sig) (X4 m c) ∗ rest 3 c) := by
  show iprop(StableHlo.held (c : Thread nD τ) (Pipeline.arrRefs spec2) (X4 m c) ∗ BI.emp ∗ beside 2 (X3 m) c
    ∗ ∃ Wd, owes (c : Thread nD τ) (0 : CellTallies nD τ sig Unit) Wd) ⊢ _
  rw [StableHlo.held_sub_split (c : Thread nD τ) (Pipeline.arrRefs_sub_ucRefs (τ := τ) spec2 (by decide)) (X4 m c), ← beside2]
  iintro ⟨Ha, -, Hb, HO⟩
  isplitl [Ha Hb]
  · isplitl [Ha]; · iexact Ha
    iexact Hb
  iexact HO

/-! ## The run -/

/-- The last buffers: after the closing reshape of the count. -/
abbrev X5 : Entry F := fun c => StableHlo.after hostOps3 (X4 m c)

/-- The launch's ghost state: the pipelines' tokens. -/
abbrev u₀ : UR sig nD τ := initOf (Pipeline.cells cfgs cellOf_inj) (Pipeline.launchToks cfgs cellOf_inj)

set_option backward.isDefEq.respectTransparency.types false in
/-- Every execution from memory `m` terminates with the results at the last buffers, each argument as launched, and
    every semaphore counter at zero. -/
theorem run (ρ : Dev nD → PrngReg) :
    θ_run defs (onTc (τ := τ) (main (F := F))) ⟨m, fun _ => 0, ρ⟩ (fun r => (∀ c : Dev nD,
      (r.2.mem ((c.tc : Thread nD τ).loc main_v0_0) = X5 m c main_v0_0 ∧ r.2.mem ((c.tc : Thread nD τ).loc main_v0_1) = X5 m c main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm (dats m) () cellOf_inj emb₁ defs₀ Variants.none lvls lvl m ρ main
    (segs m (outs m) Variants.none lvls lvl rest () (dats m) (R0 m) (R1 m) (R2 m))
    (fun c Q => by
      rewrite [main_chain c, Seg.run_eq_chain,
        show (segs m (outs m) Variants.none lvls lvl rest () (dats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) 0
    (fun g hg => if_neg hg) (fun _ => BI.emp) u₀ ?hu
    (T₀ := fun c => iprop(StableHlo.held (c : Thread nD τ) (Pipeline.ucRefs τ sig) (V0 m c) ∗ rest 0 c))
    (Tₙ := fun c => StableHlo.held (c : Thread nD τ) (Pipeline.ucRefs τ sig) (X5 m c))
    (hch := fun c => ⟨.rfl, hpre0 m c, (hpost0 m c).trans (hpre1 m c), (hpost1 m c).trans (hpre2 m c),
      (hpost2 m c).trans (by rw [← V4_eq]; exact .rfl), sep_mono (by show _ ⊢ StableHlo.held (c : Thread nD τ) (Pipeline.ucRefs τ sig) (StableHlo.after hostOps3 (X4 m c)); rw [← V4_eq]) .rfl⟩)
    (hinit := ?hinit)
    (QY := fun c s => (s.mem ((c.tc : Thread nD τ).loc main_v0_0) = X5 m c main_v0_0 ∧ s.mem ((c.tc : Thread nD τ).loc main_v0_1) = X5 m c main_v0_1)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?hfin) (hQ := fun _ h hz => ⟨h, funext fun g => hz g (.inr (regions_no_unscoped g.2))⟩)
  case hu =>
    iintro H
    imodintro
    isplitl [H]
    · iapply (show (ownU u₀ : sProp 𝕄) ⊢ BI.own ((emb₁ : Emb _ 𝕄) (initOf (Pipeline.cells (Pipeline.pin (pcfgs (F := F)) adm) cellOf_inj)
        (Pipeline.launchToks (Pipeline.pin (pcfgs (F := F)) adm) cellOf_inj))) from BI.Entails.refl _)
      iexact H
    iapply (show (BI.emp : sProp 𝕄) ⊢ bigSep Finset.univ (fun _ : Dev nD => (BI.emp : sProp 𝕄)) from by rw [BI.bigSep_emp_const])
    iempintro
  case hinit =>
    refine Pipeline.initEach lvls lvl fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  case hfin =>
    unfold StableHlo.held
    iintro ⟨Hh, HSI⟩
    ihave Hr := (pointsTo_read_all (Pipeline.ucRefs τ sig) (fun b => ((c : Thread nD τ).1, b)) (X5 m c) s') $$ [Hh HSI]
    · isplitl [Hh] <;> iassumption
    icases Hr with ⟨%h, HSI⟩
    imodintro
    isplitr
    · ipureintro
      have e : V5 m (outs m) c = X5 m c := by show StableHlo.after hostOps3 (V4 m (outs m) c) = _; rw [V4_eq]
      exact ⟨⟨(h (Proc.devRef .tc main_v0_0) (Finset.mem_filter.mpr ⟨StableHlo.devRef_mem_tcRefs main_v0_0, by decide⟩)), (h (Proc.devRef .tc main_v0_1) (Finset.mem_filter.mpr ⟨StableHlo.devRef_mem_tcRefs main_v0_1, by decide⟩))⟩,
        (h (Proc.devRef .tc main_arg0) (Finset.mem_filter.mpr ⟨StableHlo.devRef_mem_tcRefs main_arg0, by decide⟩)).trans ((congrFun e _).symm.trans (V5_main_arg0 m (outs m) c)),
        (h (Proc.devRef .tc main_arg1) (Finset.mem_filter.mpr ⟨StableHlo.devRef_mem_tcRefs main_arg1, by decide⟩)).trans ((congrFun e _).symm.trans (V5_main_arg1 m (outs m) c)),
        (h (Proc.devRef .tc main_arg2) (Finset.mem_filter.mpr ⟨StableHlo.devRef_mem_tcRefs main_arg2, by decide⟩)).trans ((congrFun e _).symm.trans (V5_main_arg2 m (outs m) c)),
        (h (Proc.devRef .tc main_arg3) (Finset.mem_filter.mpr ⟨StableHlo.devRef_mem_tcRefs main_arg3, by decide⟩)).trans ((congrFun e _).symm.trans (V5_main_arg3 m (outs m) c)),
        (h (Proc.devRef .tc main_arg4) (Finset.mem_filter.mpr ⟨StableHlo.devRef_mem_tcRefs main_arg4, by decide⟩)).trans ((congrFun e _).symm.trans (V5_main_arg4 m (outs m) c)),
        (h (Proc.devRef .tc main_arg5) (Finset.mem_filter.mpr ⟨StableHlo.devRef_mem_tcRefs main_arg5, by decide⟩)).trans ((congrFun e _).symm.trans (V5_main_arg5 m (outs m) c)),
        (h (Proc.devRef .tc main_arg6) (Finset.mem_filter.mpr ⟨StableHlo.devRef_mem_tcRefs main_arg6, by decide⟩)).trans ((congrFun e _).symm.trans (V5_main_arg6 m (outs m) c))⟩
    · iexact HSI

end Cert.KernelIdeal.Whole

end
-- ==== Proof.ReferenceRun.lean ====
/- The run of the reference: its operations in order, and what its two results are of the arguments, stated in pieces. -/
module

public import proofs.«01_k».proof.Proof.Gen.ReferenceIdeal
public import Idealize.ShloMosaic.Lib.StableHlo.Run

@[expose] public section

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

/-! ## The reference's values, in pieces -/

/-- The rows of a 1024 by 4096 array, each divided by the larger of its norm and the floor. -/
def unitX (a : Vec F S1024x4096 .f32) : Vec F S1024x4096 .f32 :=
  Host.divf a (broadcastInDim S1024x4096 ![0, 1] bcast_S1024x1_S1024x4096_0_1
    (maximumf (Host.sqrt (broadcastInDim S1024x1 ![0] bcast_S1024_S1024x1_0
        (Host.reduceAdd (mulf a a) (constant S_ .f32 0x00000000#32) reducesTo_S1024x4096_S1024_d1 h_S_)))
      (broadcastInDim S1024x1 ![] bcast_S_S1024x1 (constant S_ .f32 0x2B8CBCCC#32))))

/-- The rows of a 8192 by 4096 array, each divided by the larger of its norm and the floor. -/
def unitW (a : Vec F S8192x4096 .f32) : Vec F S8192x4096 .f32 :=
  Host.divf a (broadcastInDim S8192x4096 ![0, 1] bcast_S8192x1_S8192x4096_0_1
    (maximumf (Host.sqrt (broadcastInDim S8192x1 ![0] bcast_S8192_S8192x1_0
        (Host.reduceAdd (mulf a a) (constant S_ .f32 0x00000000#32) reducesTo_S8192x4096_S8192_d1 h_S_)))
      (broadcastInDim S8192x1 ![] bcast_S_S8192x1 (constant S_ .f32 0x2B8CBCCC#32))))

/-- The rows of a 1024 by 8192 array, each divided by the larger of its norm and the floor. -/
def unitZ (a : Vec F S1024x8192 .f32) : Vec F S1024x8192 .f32 :=
  Host.divf a (broadcastInDim S1024x8192 ![0, 1] bcast_S1024x1_S1024x8192_0_1
    (maximumf (Host.sqrt (broadcastInDim S1024x1 ![0] bcast_S1024_S1024x1_0
        (Host.reduceAdd (mulf a a) (constant S_ .f32 0x00000000#32) reducesTo_S1024x8192_S1024_d1 h_S_)))
      (broadcastInDim S1024x1 ![] bcast_S_S1024x1 (constant S_ .f32 0x2B8CBCCC#32))))

/-- Which neurons are old enough: one where the age is at least one, zero elsewhere. -/
def active (age : Vec F S1x8192 .f32) : Vec F S1x8192 .f32 :=
  select (cmpf .oge age (broadcastInDim S1x8192 ![] bcast_S_S1x8192 (constant S_ .f32 0x3F800000#32)))
    (broadcastInDim S1x8192 ![] bcast_S_S1x8192 (constant S_ .f32 0x3F800000#32))
    (broadcastInDim S1x8192 ![] bcast_S_S1x8192 (constant S_ .f32 0x00000000#32))

/-- Every image's score at every neuron. -/
def scoresRef (x : Vec F S1024x64x64 .f32) (w : Vec F S8192x4096 .f32) (age : Vec F S1x8192 .f32) : Vec F S1024x8192 .f32 :=
  mulf (Host.dotGeneral dot_S1024x4096_S4096x8192_S1024x8192_1_0_0_1_n_n none
      (unitX (fun i => shapeCast S1024x4096 x shapeCasts_S1024x64x64_S1024x4096 i)) (transpose S4096x8192 [1, 0] (unitW w) transposes_S8192x4096_S4096x8192_1_0))
    (broadcastInDim S1024x8192 ![0, 1] bcast_S1x8192_S1024x8192_0_1 (id (active age)))

/-- The second component of the row-wise arg-max of `s` with numbers `y`, from the starting pair `u`, `v`. -/
def winners (s : (⟨S1024x8192, .f32⟩ : BufTy).Contents (Elt F)) (y : (⟨S1024x8192, .i32⟩ : BufTy).Contents (Elt F))
    (u : (⟨S_, .f32⟩ : BufTy).Contents (Elt F)) (v : (⟨S_, .i32⟩ : BufTy).Contents (Elt F)) : (⟨S1024, .i32⟩ : BufTy).Contents (Elt F) :=
  fun j => (Host.argReduce reducer_argmax_f32_i32 s y u v reducesTo_S1024x8192_S1024_d1 h_S_ j).2

/-- Each image's winner. -/
def winner (s : Vec F S1024x8192 .f32) : Vec F S1024 .i32 :=
  winners (F := F) s (iotaInDim S1024x8192 32 1) (constant S_ .f32 0xFF800000#32) (constantI S_ 32 0#32)

/-- Two columns side by side. -/
def pairUp (a b : (⟨S1024x1, .i32⟩ : BufTy).Contents (Elt F)) : (⟨S1024x2, .i32⟩ : BufTy).Contents (Elt F) :=
  concatenate S1024x2 1 [⟨S1024x1, a⟩, ⟨S1024x1, b⟩] concatenates_S1024x1_S1024x1_S1024x2_d1

/-- Where each image's one is written: row zero, its winner's column (a negative column counted from the end). -/
def places (k : Vec F S1024 .i32) : Vec F S1024x2 .i32 :=
  pairUp (F := F)
    (broadcastInDim S1024x1 ![0] bcast_S1024_S1024x1_0 (id (broadcastInDim S1024 ![] bcast_S_S1024 (constantI S_ 32 0#32))))
    (broadcastInDim S1024x1 ![0] bcast_S1024_S1024x1_0
      (select (cmpi .slt k (broadcastInDim S1024 ![] bcast_S_S1024 (constantI S_ 32 0#32)))
        (addi k (broadcastInDim S1024 ![] bcast_S_S1024 (constantI S_ 32 8192#32))) k))

/-- The responses: ones at the places, zeros elsewhere. -/
def responses (p : Vec F S1024x2 .i32) : Vec F S1024x8192 .f32 :=
  Host.scatter scatter_S1024x8192_S1024x2_S1024_n_01_01_1 (fun _ b => b)
    (broadcastInDim S1024x8192 ![] bcast_S_S1024x8192 (constant S_ .f32 0x00000000#32)) p
    (broadcastInDim S1024 ![] bcast_S_S1024 (constant S_ .f32 0x3F800000#32))

/-- The first result. -/
def outRef (x : Vec F S1024x64x64 .f32) (w : Vec F S8192x4096 .f32) (wz : Vec F S1024x8192 .f32) (age : Vec F S1x8192 .f32) :
    Vec F S1024x1024 .f32 :=
  Host.dotGeneral dot_S1024x8192_S8192x1024_S1024x1024_1_0_0_1_n_n none
    (responses (places (F := F) (winner (scoresRef x w age)))) (transpose S8192x1024 [1, 0] (unitZ wz) transposes_S1024x8192_S8192x1024_1_0)

/-- The second result: how many neurons are old enough. -/
def countRef (age : Vec F S1x8192 .f32) : Vec F S_ .f32 :=
  Host.reduceAdd (id (active age)) (constant S_ .f32 0x00000000#32) reducesTo_S1x8192_S_d0_1 h_S_

/-! ## The run -/

/-- The reference's operations, in order. -/
abbrev ops : List (HloOp τ sig (Elt F)) :=
  [ reshape main_arg0 main_v0 (rfl : (.f32 : EltTy) = .f32) shapeCasts_S1024x64x64_S1024x4096,
    TRef.binary (TRef.of (T := ⟨S1024x4096, .f32⟩) main_v0) (TRef.of (T := ⟨S1024x4096, .f32⟩) main_v0) (TRef.of (T := ⟨S1024x4096, .f32⟩) main_call0_v0) mulf,
    TRef.nullary (TRef.of (T := ⟨S_, .f32⟩) main_call0_cst) (constant S_ .f32 0x00000000#32),
    TRef.binary (TRef.of (T := ⟨S1024x4096, .f32⟩) main_call0_v0) (TRef.of (T := ⟨S_, .f32⟩) main_call0_cst) (TRef.of (T := ⟨S1024, .f32⟩) main_call0_v1) (fun x v => Host.reduceAdd x v reducesTo_S1024x4096_S1024_d1 h_S_),
    TRef.unary (TRef.of (T := ⟨S1024, .f32⟩) main_call0_v1) (TRef.of (T := ⟨S1024x1, .f32⟩) main_call0_v2) (broadcastInDim S1024x1 ![0] bcast_S1024_S1024x1_0),
    TRef.unary (TRef.of (T := ⟨S1024x1, .f32⟩) main_call0_v2) (TRef.of (T := ⟨S1024x1, .f32⟩) main_v1) Host.sqrt,
    nullary main_cst (constant S_ .f32 0x2B8CBCCC#32),
    unary main_cst main_v2 (broadcastInDim S1024x1 ![] bcast_S_S1024x1 : (⟨S_, .f32⟩ : BufTy).Contents (Elt F) → (⟨S1024x1, .f32⟩ : BufTy).Contents (Elt F)),
    binary main_v1 main_v2 main_v3 (maximumf : (⟨S1024x1, .f32⟩ : BufTy).Contents (Elt F) → (⟨S1024x1, .f32⟩ : BufTy).Contents (Elt F) → (⟨S1024x1, .f32⟩ : BufTy).Contents (Elt F)),
    unary main_v3 main_v4 (broadcastInDim S1024x4096 ![0, 1] bcast_S1024x1_S1024x4096_0_1 : (⟨S1024x1, .f32⟩ : BufTy).Contents (Elt F) → (⟨S1024x4096, .f32⟩ : BufTy).Contents (Elt F)),
    binary main_v0 main_v4 main_v5 (Host.divf : (⟨S1024x4096, .f32⟩ : BufTy).Contents (Elt F) → (⟨S1024x4096, .f32⟩ : BufTy).Contents (Elt F) → (⟨S1024x4096, .f32⟩ : BufTy).Contents (Elt F)),
    TRef.binary (TRef.of (T := ⟨S8192x4096, .f32⟩) main_arg3) (TRef.of (T := ⟨S8192x4096, .f32⟩) main_arg3) (TRef.of (T := ⟨S8192x4096, .f32⟩) main_call1_v0) mulf,
    TRef.nullary (TRef.of (T := ⟨S_, .f32⟩) main_call1_cst) (constant S_ .f32 0x00000000#32),
    TRef.binary (TRef.of (T := ⟨S8192x4096, .f32⟩) main_call1_v0) (TRef.of (T := ⟨S_, .f32⟩) main_call1_cst) (TRef.of (T := ⟨S8192, .f32⟩) main_call1_v1) (fun x v => Host.reduceAdd x v reducesTo_S8192x4096_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v6) Host.sqrt,
    nullary main_cst_0 (constant S_ .f32 0x2B8CBCCC#32),
    unary main_cst_0 main_v7 (broadcastInDim S8192x1 ![] bcast_S_S8192x1 : (⟨S_, .f32⟩ : BufTy).Contents (Elt F) → (⟨S8192x1, .f32⟩ : BufTy).Contents (Elt F)),
    binary main_v6 main_v7 main_v8 (maximumf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x4096 ![0, 1] bcast_S8192x1_S8192x4096_0_1 : (⟨S8192x1, .f32⟩ : BufTy).Contents (Elt F) → (⟨S8192x4096, .f32⟩ : BufTy).Contents (Elt F)),
    binary main_arg3 main_v9 main_v10 (Host.divf : (⟨S8192x4096, .f32⟩ : BufTy).Contents (Elt F) → (⟨S8192x4096, .f32⟩ : BufTy).Contents (Elt F) → (⟨S8192x4096, .f32⟩ : BufTy).Contents (Elt F)),
    TRef.binary (TRef.of (T := ⟨S1024x8192, .f32⟩) main_arg5) (TRef.of (T := ⟨S1024x8192, .f32⟩) main_arg5) (TRef.of (T := ⟨S1024x8192, .f32⟩) main_call2_v0) mulf,
    TRef.nullary (TRef.of (T := ⟨S_, .f32⟩) main_call2_cst) (constant S_ .f32 0x00000000#32),
    TRef.binary (TRef.of (T := ⟨S1024x8192, .f32⟩) main_call2_v0) (TRef.of (T := ⟨S_, .f32⟩) main_call2_cst) (TRef.of (T := ⟨S1024, .f32⟩) main_call2_v1) (fun x v => Host.reduceAdd x v reducesTo_S1024x8192_S1024_d1 h_S_),
    TRef.unary (TRef.of (T := ⟨S1024, .f32⟩) main_call2_v1) (TRef.of (T := ⟨S1024x1, .f32⟩) main_call2_v2) (broadcastInDim S1024x1 ![0] bcast_S1024_S1024x1_0),
    TRef.unary (TRef.of (T := ⟨S1024x1, .f32⟩) main_call2_v2) (TRef.of (T := ⟨S1024x1, .f32⟩) main_v11) Host.sqrt,
    nullary main_cst_1 (constant S_ .f32 0x2B8CBCCC#32),
    unary main_cst_1 main_v12 (broadcastInDim S1024x1 ![] bcast_S_S1024x1 : (⟨S_, .f32⟩ : BufTy).Contents (Elt F) → (⟨S1024x1, .f32⟩ : BufTy).Contents (Elt F)),
    binary main_v11 main_v12 main_v13 (maximumf : (⟨S1024x1, .f32⟩ : BufTy).Contents (Elt F) → (⟨S1024x1, .f32⟩ : BufTy).Contents (Elt F) → (⟨S1024x1, .f32⟩ : BufTy).Contents (Elt F)),
    unary main_v13 main_v14 (broadcastInDim S1024x8192 ![0, 1] bcast_S1024x1_S1024x8192_0_1 : (⟨S1024x1, .f32⟩ : BufTy).Contents (Elt F) → (⟨S1024x8192, .f32⟩ : BufTy).Contents (Elt F)),
    binary main_arg5 main_v14 main_v15 (Host.divf : (⟨S1024x8192, .f32⟩ : BufTy).Contents (Elt F) → (⟨S1024x8192, .f32⟩ : BufTy).Contents (Elt F) → (⟨S1024x8192, .f32⟩ : BufTy).Contents (Elt F)),
    unary main_v10 main_v16 ((transpose S4096x8192 [1, 0] · transposes_S8192x4096_S4096x8192_1_0) : (⟨S8192x4096, .f32⟩ : BufTy).Contents (Elt F) → (⟨S4096x8192, .f32⟩ : BufTy).Contents (Elt F)),
    binary main_v5 main_v16 main_v17 ((fun l r => Host.dotGeneral dot_S1024x4096_S4096x8192_S1024x8192_1_0_0_1_n_n none l r) : (⟨S1024x4096, .f32⟩ : BufTy).Contents (Elt F) → (⟨S4096x8192, .f32⟩ : BufTy).Contents (Elt F) → (⟨S1024x8192, .f32⟩ : BufTy).Contents (Elt F)),
    nullary main_cst_2 (constant S_ .f32 0x3F800000#32),
    unary main_cst_2 main_v18 (broadcastInDim S1x8192 ![] bcast_S_S1x8192 : (⟨S_, .f32⟩ : BufTy).Contents (Elt F) → (⟨S1x8192, .f32⟩ : BufTy).Contents (Elt F)),
    binary main_arg6 main_v18 main_v19 (cmpf .oge : (⟨S1x8192, .f32⟩ : BufTy).Contents (Elt F) → (⟨S1x8192, .f32⟩ : BufTy).Contents (Elt F) → (⟨S1x8192, .i1⟩ : BufTy).Contents (Elt F)),
    nullary main_cst_3 (constant S_ .f32 0x3F800000#32),
    nullary main_cst_4 (constant S_ .f32 0x00000000#32),
    TRef.unary (TRef.of (T := ⟨S_, .f32⟩) main_cst_3) (TRef.of (T := ⟨S1x8192, .f32⟩) main_call3_v0) (broadcastInDim S1x8192 ![] bcast_S_S1x8192),
    TRef.unary (TRef.of (T := ⟨S_, .f32⟩) main_cst_4) (TRef.of (T := ⟨S1x8192, .f32⟩) main_call3_v1) (broadcastInDim S1x8192 ![] bcast_S_S1x8192),
    TRef.ternary (TRef.of (T := ⟨S1x8192, .i1⟩) main_v19) (TRef.of (T := ⟨S1x8192, .f32⟩) main_call3_v0) (TRef.of (T := ⟨S1x8192, .f32⟩) main_call3_v1) (TRef.of (T := ⟨S1x8192, .f32⟩) main_v20) select,
    unary main_v20 main_v21 (id : (⟨S1x8192, .f32⟩ : BufTy).Contents (Elt F) → (⟨S1x8192, .f32⟩ : BufTy).Contents (Elt F)),
    unary main_v21 main_v22 (broadcastInDim S1024x8192 ![0, 1] bcast_S1x8192_S1024x8192_0_1 : (⟨S1x8192, .f32⟩ : BufTy).Contents (Elt F) → (⟨S1024x8192, .f32⟩ : BufTy).Contents (Elt F)),
    binary main_v17 main_v22 main_v23 (mulf : (⟨S1024x8192, .f32⟩ : BufTy).Contents (Elt F) → (⟨S1024x8192, .f32⟩ : BufTy).Contents (Elt F) → (⟨S1024x8192, .f32⟩ : BufTy).Contents (Elt F)),
    TRef.nullary (TRef.of (T := ⟨S1024x8192, .i32⟩) main_call4_v0) (iotaInDim S1024x8192 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S1024x8192, .f32⟩) main_v23) (TRef.of (T := ⟨S1024x8192, .i32⟩) main_call4_v0) (TRef.of (T := ⟨S_, .f32⟩) main_call4_cst) (TRef.of (T := ⟨S_, .i32⟩) main_call4_c) (TRef.of (T := ⟨S1024, .f32⟩) main_call4_v1_0) (fun x y u v j => (Host.argReduce reducer_argmax_f32_i32 x y u v reducesTo_S1024x8192_S1024_d1 h_S_ j).1),
    TRef.quaternary (TRef.of (T := ⟨S1024x8192, .f32⟩) main_v23) (TRef.of (T := ⟨S1024x8192, .i32⟩) main_call4_v0) (TRef.of (T := ⟨S_, .f32⟩) main_call4_cst) (TRef.of (T := ⟨S_, .i32⟩) main_call4_c) (TRef.of (T := ⟨S1024, .i32⟩) main_v24) winners,
    nullary main_cst_5 (constant S_ .f32 0x00000000#32),
    unary main_cst_5 main_v25 (broadcastInDim S1024x8192 ![] bcast_S_S1024x8192 : (⟨S_, .f32⟩ : BufTy).Contents (Elt F) → (⟨S1024x8192, .f32⟩ : BufTy).Contents (Elt F)),
    nullary main_c (constantI S_ 32 0#32),
    unary main_c main_v26 (broadcastInDim S1024 ![] bcast_S_S1024 : (⟨S_, .i32⟩ : BufTy).Contents (Elt F) → (⟨S1024, .i32⟩ : BufTy).Contents (Elt F)),
    binary main_v24 main_v26 main_v27 (cmpi .slt : (⟨S1024, .i32⟩ : BufTy).Contents (Elt F) → (⟨S1024, .i32⟩ : BufTy).Contents (Elt F) → (⟨S1024, .i1⟩ : BufTy).Contents (Elt F)),
    nullary main_c_6 (constantI S_ 32 8192#32),
    unary main_c_6 main_v28 (broadcastInDim S1024 ![] bcast_S_S1024 : (⟨S_, .i32⟩ : BufTy).Contents (Elt F) → (⟨S1024, .i32⟩ : BufTy).Contents (Elt F)),
    binary main_v24 main_v28 main_v29 (addi : (⟨S1024, .i32⟩ : BufTy).Contents (Elt F) → (⟨S1024, .i32⟩ : BufTy).Contents (Elt F) → (⟨S1024, .i32⟩ : BufTy).Contents (Elt F)),
    ternary main_v27 main_v29 main_v24 main_v30 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_7 (constantI S_ 32 0#32),
    unary main_c_7 main_v31 (broadcastInDim S1024 ![] bcast_S_S1024 : (⟨S_, .i32⟩ : BufTy).Contents (Elt F) → (⟨S1024, .i32⟩ : BufTy).Contents (Elt F)),
    unary main_v31 main_v32 (id : (⟨S1024, .i32⟩ : BufTy).Contents (Elt F) → (⟨S1024, .i32⟩ : BufTy).Contents (Elt F)),
    unary main_v32 main_v33 (broadcastInDim S1024x1 ![0] bcast_S1024_S1024x1_0 : (⟨S1024, .i32⟩ : BufTy).Contents (Elt F) → (⟨S1024x1, .i32⟩ : BufTy).Contents (Elt F)),
    unary main_v30 main_v34 (broadcastInDim S1024x1 ![0] bcast_S1024_S1024x1_0 : (⟨S1024, .i32⟩ : BufTy).Contents (Elt F) → (⟨S1024x1, .i32⟩ : BufTy).Contents (Elt F)),
    binary main_v33 main_v34 main_v35 pairUp,
    nullary main_cst_8 (constant S_ .f32 0x3F800000#32),
    unary main_cst_8 main_v36 (broadcastInDim S1024 ![] bcast_S_S1024 : (⟨S_, .f32⟩ : BufTy).Contents (Elt F) → (⟨S1024, .f32⟩ : BufTy).Contents (Elt F)),
    ternary main_v25 main_v35 main_v36 main_v37 ((fun x i u => Host.scatter scatter_S1024x8192_S1024x2_S1024_n_01_01_1 (fun _ b => b) x i u) : (⟨S1024x8192, .f32⟩ : BufTy).Contents (Elt F) → (⟨S1024x2, .i32⟩ : BufTy).Contents (Elt F) → (⟨S1024, .f32⟩ : BufTy).Contents (Elt F) → (⟨S1024x8192, .f32⟩ : BufTy).Contents (Elt F)),
    unary main_v15 main_v38 ((transpose S8192x1024 [1, 0] · transposes_S1024x8192_S8192x1024_1_0) : (⟨S1024x8192, .f32⟩ : BufTy).Contents (Elt F) → (⟨S8192x1024, .f32⟩ : BufTy).Contents (Elt F)),
    binary main_v37 main_v38 main_v39 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    unary main_v20 main_v40 (id : (⟨S1x8192, .f32⟩ : BufTy).Contents (Elt F) → (⟨S1x8192, .f32⟩ : BufTy).Contents (Elt F)),
    nullary main_cst_9 (constant S_ .f32 0x00000000#32),
    binary main_v40 main_cst_9 main_v41 ((fun x v => Host.reduceAdd x v reducesTo_S1x8192_S_d0_1 h_S_) : (⟨S1x8192, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is its operations in order. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation touches the program's own buffers. -/
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., nullary_bufs_sub .., unary_bufs_sub .., ternary_bufs_sub .., unary_bufs_sub .., binary_bufs_sub .., unary_bufs_sub .., nullary_bufs_sub .., binary_bufs_sub ..⟩

set_option maxRecDepth 8192 in
set_option maxHeartbeats 32400000 in
/-- Every execution of the reference terminates with its two results as above and its arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = outRef (m ((c : Thread nD τ).loc main_arg0)) (m ((c : Thread nD τ).loc main_arg3)) (m ((c : Thread nD τ).loc main_arg5)) (m ((c : Thread nD τ).loc main_arg6))
      ∧ r.2.mem ((c.tc : Thread nD τ).loc main_v41) = countRef (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v39).trans (by simp only [ops, TRef.binary, TRef.nullary, TRef.ternary, TRef.unary, TRef.quaternary, TRef.toBuf, TRef.ofBuf, cast_eq]; after_results_simp <;> rfl),
      (h c main_v41).trans (by simp only [ops, TRef.binary, TRef.nullary, TRef.ternary, TRef.unary, TRef.quaternary, TRef.toBuf, TRef.ofBuf, cast_eq]; after_results_simp <;> rfl),
      (h c main_arg0).trans (by simp only [ops, TRef.binary, TRef.nullary, TRef.ternary, TRef.unary, TRef.quaternary, TRef.toBuf, TRef.ofBuf, cast_eq]; after_results_simp <;> rfl),
      (h c main_arg1).trans (by simp only [ops, TRef.binary, TRef.nullary, TRef.ternary, TRef.unary, TRef.quaternary, TRef.toBuf, TRef.ofBuf, cast_eq]; after_results_simp <;> rfl),
      (h c main_arg2).trans (by simp only [ops, TRef.binary, TRef.nullary, TRef.ternary, TRef.unary, TRef.quaternary, TRef.toBuf, TRef.ofBuf, cast_eq]; after_results_simp <;> rfl),
      (h c main_arg3).trans (by simp only [ops, TRef.binary, TRef.nullary, TRef.ternary, TRef.unary, TRef.quaternary, TRef.toBuf, TRef.ofBuf, cast_eq]; after_results_simp <;> rfl),
      (h c main_arg4).trans (by simp only [ops, TRef.binary, TRef.nullary, TRef.ternary, TRef.unary, TRef.quaternary, TRef.toBuf, TRef.ofBuf, cast_eq]; after_results_simp <;> rfl),
      (h c main_arg5).trans (by simp only [ops, TRef.binary, TRef.nullary, TRef.ternary, TRef.unary, TRef.quaternary, TRef.toBuf, TRef.ofBuf, cast_eq]; after_results_simp <;> rfl),
      (h c main_arg6).trans (by simp only [ops, TRef.binary, TRef.nullary, TRef.ternary, TRef.unary, TRef.quaternary, TRef.toBuf, TRef.ofBuf, cast_eq]; after_results_simp <;> rfl)⟩)
    (run_seq scopedRefs_eq scopedSems_eq defs main (fun _ => ops) main_eq (fun _ => ops_sub) m ρ)

end Cert.ReferenceIdeal.Plain

end
-- ==== Proof.ValueMath.lean ====
/- Facts of the extended reals and of finding a maximum's first place that the value claim rests on; no program is named here. -/
module

public import Idealize.ShloMosaic.Lib.Pointwise
public import Idealize.ShloMosaic.PureOps.Ideal.Laws

@[expose] public section

noncomputable section

namespace Cert.ValueMath

open Idealize.ShloMosaic

/-! ## Dividing by a norm -/

/-- The floor below which no norm is taken. -/
def eps : EReal := Ideal.ofBits .f32 0x2B8CBCCC#32

/-- The floor is positive. -/
theorem eps_pos : 0 < eps := by
  have e : eps = ((9223372 * (2 : ℝ) ^ (-63 : ℤ) : ℝ) : EReal) := by
    simp [eps, Ideal.ofBits, Ideal.ieee]
  rw [e]
  exact_mod_cast by positivity

/-- The factor a row is multiplied by: the inverse of the larger of its norm and the floor, `s` being its sum of squares. -/
def scale (s : EReal) : EReal := (max (Ideal.sqrt s) eps)⁻¹

/-- What a row is divided by is positive. -/
theorem den_pos (s : EReal) : 0 < max (Ideal.sqrt s) eps := lt_max_of_lt_right eps_pos

/-- The factor is not negative. -/
theorem scale_nonneg (s : EReal) : 0 ≤ scale s := EReal.inv_nonneg_of_nonneg (den_pos s).le

/-- The factor is not infinite. -/
theorem scale_ne_top (s : EReal) : scale s ≠ ⊤ := by
  unfold scale
  have := den_pos s
  generalize max (Ideal.sqrt s) eps = n at this
  induction n with
  | bot => simp at this
  | top => simp
  | coe r => rw [← EReal.coe_inv]; exact EReal.coe_ne_top _

/-- Dividing by the norm is multiplying by the factor. -/
theorem div_den (x s : EReal) : Ideal.div x (max (Ideal.sqrt s) eps) = x * scale s := by
  rw [Ideal.div, if_neg (den_pos s).ne', scale]

/-- A sum of multiples of a finite, nonnegative factor is the multiple of the sum. -/
theorem sum_mul {ι : Type} (S : Finset ι) (f : ι → EReal) {c : EReal} (h0 : 0 ≤ c) (ht : c ≠ ⊤) :
    ∑ k ∈ S, f k * c = (∑ k ∈ S, f k) * c := by
  classical
  induction S using Finset.induction_on with
  | empty => simp
  | insert a S ha ih =>
    rw [Finset.sum_insert ha, Finset.sum_insert ha, ih, mul_comm (f a + _), EReal.left_distrib_of_nonneg_of_ne_top h0 ht,
      mul_comm c, mul_comm c]

/-! ## The first place of the maximum -/

/-- `c` is the first place among `0 … n − 1` at which `f` is largest. -/
def First (f : ℕ → EReal) (n c : ℕ) : Prop :=
  c < n ∧ (∀ j < n, f j ≤ f c) ∧ ∀ j < c, f j < f c

/-- There is only one such place. -/
theorem First.unique {f : ℕ → EReal} {n a b : ℕ} (ha : First f n a) (hb : First f n b) : a = b := by
  rcases Nat.lt_trichotomy a b with h | h | h
  · exact absurd (hb.2.2 a h) (not_lt.2 (ha.2.1 b hb.1))
  · exact h
  · exact absurd (ha.2.2 b h) (not_lt.2 (hb.2.1 a ha.1))

/-- After `n` places of the stride `g` (place `q` is number `128 q + l`): `b` is their largest value, from `⊥`, and `c` the first number with it, zero when all are `⊥`. -/
def Lead (f : ℕ → EReal) (l n : ℕ) (b : EReal) (c : ℕ) : Prop :=
  (∀ q < n, f (128 * q + l) ≤ b) ∧
    ((b = ⊥ ∧ c = 0) ∨ ∃ q < n, c = 128 * q + l ∧ f c = b ∧ ⊥ < b ∧ ∀ p < q, f (128 * p + l) < b)

/-- Nothing seen yet. -/
theorem Lead.zero (f : ℕ → EReal) (l : ℕ) : Lead f l 0 ⊥ 0 := ⟨fun _ h => absurd h (by omega), .inl ⟨rfl, rfl⟩⟩

/-- One more place: its number is taken where its value exceeds what was seen. -/
theorem Lead.succ {f : ℕ → EReal} {l n c : ℕ} {b : EReal} (h : Lead f l n b c) :
    Lead f l (n + 1) (max (f (128 * n + l)) b) (if b < f (128 * n + l) then 128 * n + l else c) := by
  by_cases hb : b < f (128 * n + l)
  · rw [if_pos hb, max_eq_left hb.le]
    refine ⟨fun q hq => ?_, .inr ⟨n, by omega, rfl, rfl, lt_of_le_of_lt bot_le hb, fun p hp => lt_of_le_of_lt (h.1 p hp) hb⟩⟩
    rcases Nat.lt_succ_iff_lt_or_eq.1 hq with hq | rfl
    · exact (h.1 q hq).trans hb.le
    · exact le_rfl
  · rw [if_neg hb, max_eq_right (not_lt.1 hb)]
    refine ⟨fun q hq => ?_, ?_⟩
    · rcases Nat.lt_succ_iff_lt_or_eq.1 hq with hq | rfl
      · exact h.1 q hq
      · exact not_lt.1 hb
    · rcases h.2 with h | ⟨q, hq, e⟩
      · exact .inl h
      · exact .inr ⟨q, by omega, e⟩

/-- From 128 strides' leads: a number that is the least among the numbers of the strides whose value is the largest is the first place of the maximum. -/
theorem first_of_leads {f : ℕ → EReal} {n : ℕ} (hn : 0 < n) (b : ℕ → EReal) (c : ℕ → ℕ) (h : ∀ l < 128, Lead f l n (b l) (c l))
    {M : EReal} (hM : ∀ l < 128, b l ≤ M) {d : ℕ} (hd : ∃ l < 128, b l = M ∧ d = c l) (hmin : ∀ l < 128, b l = M → d ≤ c l) :
    First f (128 * n) d := by
  have up : ∀ j < 128 * n, f j ≤ M := fun j hj => by
    have := (h (j % 128) (Nat.mod_lt _ (by omega))).1 (j / 128) (by omega)
    rw [Nat.div_add_mod] at this
    exact this.trans (hM _ (Nat.mod_lt _ (by omega)))
  obtain ⟨l, hl, hbl, hdl⟩ := hd
  rcases (h l hl).2 with ⟨hb, hc⟩ | ⟨q, hq, hc, hf, hb, hp⟩
  · have hd0 : d = 0 := hdl.trans hc
    have hMb : M = ⊥ := hbl.symm.trans hb
    subst hd0
    refine ⟨by omega, fun j hj => ?_, fun j hj => absurd hj (by omega)⟩
    exact (up j hj).trans (hMb ▸ bot_le)
  · subst hdl
    rw [hbl] at hf hb
    refine ⟨by omega, fun j hj => (up j hj).trans hf.ge, fun j hj => ?_⟩
    refine lt_of_le_of_ne ((up j (by omega)).trans hf.ge) fun e => ?_
    have hl' : j % 128 < 128 := Nat.mod_lt _ (by omega)
    have hj1 : f (128 * (j / 128) + j % 128) = M := by rw [Nat.div_add_mod, e, hf]
    have hbj : b (j % 128) = M := le_antisymm (hM _ hl') (hj1 ▸ (h _ hl').1 (j / 128) (by omega))
    have hmj := hmin _ hl' hbj
    rcases (h _ hl').2 with ⟨hb', _⟩ | ⟨q', _, hc', _, _, hp'⟩
    · rw [hbj] at hb'; exact absurd hb' hb.ne'
    · have : j / 128 < q' := by omega
      have := hp' _ this
      rw [hj1, hbj] at this
      exact lt_irrefl _ this

/-- What a fold keeping the larger value, and the smaller number at equal values, ends with. -/
theorem foldl_lead {β : Type} (r : EReal × β → EReal × β → EReal × β) (num : β → ℤ)
    (hr : ∀ a b, r a b = if b.1 < a.1 ∨ (a.1 = b.1 ∧ num a.2 < num b.2) then a else (b.1 ⊔ a.1, b.2)) (L : List (EReal × β)) (u : EReal × β) :
    (∀ p ∈ u :: L, p.1 ≤ (L.foldl r u).1 ∧ (p.1 = (L.foldl r u).1 → num (L.foldl r u).2 ≤ num p.2)) ∧ L.foldl r u ∈ u :: L := by
  induction L generalizing u with
  | nil => simp
  | cons q L ih =>
    rw [List.foldl_cons]
    have hq : (u.1 ≤ (r u q).1 ∧ (u.1 = (r u q).1 → num (r u q).2 ≤ num u.2)) ∧ (q.1 ≤ (r u q).1 ∧ (q.1 = (r u q).1 → num (r u q).2 ≤ num q.2))
        ∧ (r u q = u ∨ r u q = q) := by
      rw [hr]
      by_cases h1 : q.1 < u.1
      · rw [if_pos (.inl h1)]
        exact ⟨⟨le_rfl, fun _ => le_rfl⟩, ⟨h1.le, fun e => absurd e h1.ne⟩, .inl rfl⟩
      · by_cases h2 : u.1 = q.1 ∧ num u.2 < num q.2
        · rw [if_pos (.inr h2)]
          exact ⟨⟨le_rfl, fun _ => le_rfl⟩, ⟨h2.1.ge, fun _ => h2.2.le⟩, .inl rfl⟩
        · rw [if_neg (not_or.2 ⟨h1, h2⟩)]
          have e : q.1 ⊔ u.1 = q.1 := max_eq_left (not_lt.1 h1)
          simp only [e]
          refine ⟨⟨not_lt.1 h1, fun e' => ?_⟩, ⟨le_rfl, fun _ => le_rfl⟩, .inr trivial⟩
          by_contra hlt
          exact h2 ⟨e', by omega⟩
    obtain ⟨hall, hmem⟩ := ih (r u q)
    have hru := hall (r u q) (List.mem_cons_self ..)
    have lift : ∀ p : EReal × β, p.1 ≤ (r u q).1 → (p.1 = (r u q).1 → num (r u q).2 ≤ num p.2) →
        p.1 ≤ (L.foldl r (r u q)).1 ∧ (p.1 = (L.foldl r (r u q)).1 → num (L.foldl r (r u q)).2 ≤ num p.2) := fun p hp1 hp2 =>
      ⟨hp1.trans hru.1, fun e => (hru.2 (le_antisymm hru.1 (e ▸ hp1))).trans (hp2 (le_antisymm hp1 (e ▸ hru.1)))⟩
    refine ⟨fun p hp => ?_, ?_⟩
    · rcases List.mem_cons.1 hp with rfl | hp
      · exact lift _ hq.1.1 hq.1.2
      · rcases List.mem_cons.1 hp with rfl | hp
        · exact lift _ hq.2.1.1 hq.2.1.2
        · exact hall p (List.mem_cons_of_mem _ hp)
    · rcases List.mem_cons.1 hmem with e | hm
      · rw [e]
        rcases hq.2.2 with e | e
        · rw [e]; exact List.mem_cons_self ..
        · rw [e]; exact List.mem_cons_of_mem _ (List.mem_cons_self ..)
      · exact List.mem_cons_of_mem _ (List.mem_cons_of_mem _ hm)

end Cert.ValueMath

end
-- ==== Proof.ValueReference.lean ====
/- What the reference computes over the extended reals, read at an index: the rows divided by their norms, the scores, each image's
   winner, the responses and the two results. -/
module

public import proofs.«01_k».proof.Proof.ReferenceRun
public import proofs.«01_k».proof.Proof.ValueMath
public import Idealize.ShloMosaic.Lib.Pointwise
public import Idealize.ShloMosaic.Lib.Routing.OpsPair

@[expose] public section

set_option maxRecDepth 16384

noncomputable section

namespace Cert.ReferenceIdeal.Plain

open Cert.ReferenceIdeal Cert.ReferenceIdeal.Gen Cert.ValueMath Idealize.ShloMosaic Idealize.SL.Sem

/-! ## Rows divided by their norms -/

/-- An element of `unitX` is the element times its row's factor. -/
theorem unitX_apply (a : Vec Ideal S1024x4096 .f32) (i : Fin 1024) (k : Fin 4096) :
    unitX a (ix2 i k) = a (ix2 i k) * scale (∑ l : Fin 4096, a (ix2 i l) * a (ix2 i l)) := by
  pointwise [unitX]
  exact div_den _ _

/-- An element of `unitW` is the element times its row's factor. -/
theorem unitW_apply (a : Vec Ideal S8192x4096 .f32) (i : Fin 8192) (k : Fin 4096) :
    unitW a (ix2 i k) = a (ix2 i k) * scale (∑ l : Fin 4096, a (ix2 i l) * a (ix2 i l)) := by
  pointwise [unitW]
  exact div_den _ _

/-- An element of `unitZ` is the element times its row's factor. -/
theorem unitZ_apply (a : Vec Ideal S1024x8192 .f32) (i : Fin 1024) (k : Fin 8192) :
    unitZ a (ix2 i k) = a (ix2 i k) * scale (∑ l : Fin 8192, a (ix2 i l) * a (ix2 i l)) := by
  pointwise [unitZ]
  exact div_den _ _

/-- One where the age is at least one, zero elsewhere. -/
def old (v : EReal) : EReal := if 1 ≤ v then 1 else 0

/-- The mask at a neuron. -/
theorem active_apply (age : Vec Ideal S1x8192 .f32) (j : Fin 8192) : active age (ix2 0 j) = old (age (ix2 0 j)) := by
  pointwise [active]
  rfl

/-- Image `i` laid out as a row. -/
def flat (x : Vec Ideal S1024x64x64 .f32) (i : Fin 1024) (k : Fin 4096) : EReal :=
  x (ix3 i ⟨k.val / 64, by omega⟩ ⟨k.val % 64, by omega⟩)

/-- Image `i`'s score at neuron `j`. -/
def score (x : Vec Ideal S1024x64x64 .f32) (w : Vec Ideal S8192x4096 .f32) (age : Vec Ideal S1x8192 .f32) (i : Fin 1024) (j : Fin 8192) : EReal :=
  (∑ k : Fin 4096, flat x i k * scale (∑ l : Fin 4096, flat x i l * flat x i l) * w (ix2 j k))
    * (scale (∑ l : Fin 4096, w (ix2 j l) * w (ix2 j l)) * old (age (ix2 0 j)))

/-- The reference's score is `score`. -/
theorem scoresRef_apply (x : Vec Ideal S1024x64x64 .f32) (w : Vec Ideal S8192x4096 .f32) (age : Vec Ideal S1x8192 .f32) (i : Fin 1024) (j : Fin 8192) :
    scoresRef x w age (ix2 i j) = score x w age i j := by
  have hX : ∀ (i : Fin 1024) (k : Fin 4096), (fun i => shapeCast S1024x4096 x shapeCasts_S1024x64x64_S1024x4096 i) (ix2 i k) = flat x i k := fun i k => by
    pointwise; rfl
  unfold scoresRef
  generalize (fun i => shapeCast S1024x4096 x shapeCasts_S1024x64x64_S1024x4096 i) = a at hX ⊢
  pointwise
  rw [show id (active age) (ix2 0 j) = old (age (ix2 0 j)) from active_apply age j]
  simp only [unitX_apply, unitW_apply, hX]
  unfold score
  rw [← mul_assoc, ← sum_mul _ _ (scale_nonneg _) (scale_ne_top _)]
  simp only [mul_assoc]

/-! ## The winner -/

/-- The reference's step keeps the larger value, and the smaller number at equal values. -/
theorem reducer_eq (a b : EReal × BitVec 32) : reducer_argmax_f32_i32 (F := Ideal) a b
    = if b.1 < a.1 ∨ (a.1 = b.1 ∧ a.2.toInt < b.2.toInt) then a else (b.1 ⊔ a.1, b.2) := by
  obtain ⟨a1, a2⟩ := a
  obtain ⟨b1, b2⟩ := b
  have hlt : IntOp.cmpi .slt a2 b2 = BitVec.ofBool (decide (a2.toInt < b2.toInt)) := rfl
  have e1 : FloatOps.cmpf (F := Ideal) (φ := .f32) .ogt a1 b1 = BitVec.ofBool (decide (b1 < a1)) := rfl
  have e2 : FloatOps.cmpf (F := Ideal) (φ := .f32) .une a1 a1 = BitVec.ofBool (decide (a1 ≠ a1)) := rfl
  have e3 : FloatOps.cmpf (F := Ideal) (φ := .f32) .oeq a1 b1 = BitVec.ofBool (decide (a1 = b1)) := rfl
  simp only [reducer_argmax_f32_i32, hlt, e1, e2, e3]
  by_cases h1 : b1 < a1
  · have h5 : ∀ x : BitVec 1, 1#1 ||| x = 1#1 := by decide
    simp [h1, h5, IntOp.ori, IntOp.andi, Scalar.select]
  · by_cases h2 : a1 = b1
    · subst h2
      by_cases h3 : a2.toInt < b2.toInt
      · simp [h3, IntOp.ori, IntOp.andi, Scalar.select]
      · simp [h3, IntOp.ori, IntOp.andi, Scalar.select]
    · have h4 : a1 ≤ b1 := not_lt.1 h1
      simp [h1, h2, h4, IntOp.ori, IntOp.andi, Scalar.select]

/-- A row's index drops to the row. -/
theorem drop_row (i : Fin 1024) (n : Fin 8192) : (reducesTo_S1024x8192_S1024_d1).drop (ix2 i n) = ix1 i := by
  funext b
  apply Fin.ext
  fin_cases b
  exact Shape.ReducesTo.drop_apply_val reducesTo_S1024x8192_S1024_d1 (ix2 i n) 0

/-- The pairs an arg-max runs over at an index: one for each operand index that drops to it. -/
theorem mem_fiber {α β : Type} {s t : Shape} {axes : List (Fin s.rank)} (x : s.Idx → α) (y : s.Idx → β) (h : s.ReducesTo axes t) (j : t.Idx) (p : α × β) :
    p ∈ Host.argReduceFiber x y h j ↔ ∃ i : s.Idx, h.drop i = j ∧ p = (x i, y i) := by
  unfold Host.argReduceFiber
  rw [List.mem_map]
  constructor
  · rintro ⟨n, hn, rfl⟩
    exact ⟨s.rowMajor.symm n, of_decide_eq_true (List.mem_filter.1 hn).2, rfl⟩
  · rintro ⟨i, hi, rfl⟩
    exact ⟨s.rowMajor i, List.mem_filter.2 ⟨List.mem_finRange _, decide_eq_true (by rw [Equiv.symm_apply_apply]; exact hi)⟩, by rw [Equiv.symm_apply_apply]⟩

/-- The pairs of row `i`: each column's score with its number. -/
theorem mem_row (s : Vec Ideal S1024x8192 .f32) (i : Fin 1024) (p : EReal × BitVec 32) :
    p ∈ Host.argReduceFiber (α := EReal) s (iotaInDim S1024x8192 32 1) reducesTo_S1024x8192_S1024_d1 (ix1 i)
      ↔ ∃ n : Fin 8192, p = (s (ix2 i n), BitVec.ofNat 32 n.val) := by
  rw [mem_fiber]
  constructor
  · rintro ⟨j, hj, rfl⟩
    obtain ⟨a, b, rfl⟩ : ∃ (a : Fin 1024) (b : Fin 8192), j = ix2 a b := ⟨_, _, eq_ix2 _⟩
    rw [drop_row] at hj
    have ha : a = i := congrFun hj 0
    subst ha
    exact ⟨b, rfl⟩
  · rintro ⟨n, rfl⟩
    exact ⟨ix2 i n, drop_row i n, rfl⟩

/-- A column's number read signed. -/
theorem toInt_col (n : Fin 8192) : (BitVec.ofNat 32 n.val).toInt = n.val := by
  have := n.isLt
  rw [BitVec.toInt_ofNat', Int.bmod_eq_of_le] <;> omega

/-- The arg-max starts at `⊥` and zero. -/
theorem init_eq : ((constant (F := Ideal) S_ .f32 0xFF800000#32 : Vec Ideal S_ .f32) (Shape.Idx.first h_S_), (constantI S_ 32 0#32 : IVec S_ 32) (Shape.Idx.first h_S_)) = ((⊥ : EReal), 0#32) := by
  refine Prod.ext ?_ rfl
  show Ideal.ofBits .f32 0xFF800000#32 = ⊥
  simp [Ideal.ofBits, Ideal.ieee]

/-- A float arg-max over the extended reals is the fold over its pairs. -/
theorem argMax_fold {β : Type} {s t u : Shape} {axes : List (Fin s.rank)} (f : EReal × β → EReal × β → EReal × β) (x : s.Idx → EReal) (y : s.Idx → β)
    (ix : u.Idx → EReal) (iy : u.Idx → β) (h : s.ReducesTo axes t) (hu : 0 < u.numel) (j : t.Idx) (v : EReal × β)
    (hv : (ix (Shape.Idx.first hu), iy (Shape.Idx.first hu)) = v) :
    Host.argReduce (F := Ideal) (φ := .f32) f x y ix iy h hu j = (Host.argReduceFiber x y h j).foldl f v := by
  rw [Ideal.argReduce_eq_reduce2, Host.reduce2_eq_foldl_fiber, hv]

/-- What `winners` is, its numbers' type written out. -/
theorem winners_eq {F : FTy → Type} [FloatOps F] (s : (⟨S1024x8192, .f32⟩ : BufTy).Contents (Elt F)) (y : (⟨S1024x8192, .i32⟩ : BufTy).Contents (Elt F))
    (u : (⟨S_, .f32⟩ : BufTy).Contents (Elt F)) (v : (⟨S_, .i32⟩ : BufTy).Contents (Elt F)) :
    winners (F := F) s y u v = fun j => (Host.argReduce reducer_argmax_f32_i32 s y u v reducesTo_S1024x8192_S1024_d1 h_S_ j).2 := rfl

/-- The second component of the arg-max as a fold over the pairs. -/
theorem winners_fold (s : Vec Ideal S1024x8192 .f32) (y : IVec S1024x8192 32) (u : Vec Ideal S_ .f32) (v : IVec S_ 32) (a : EReal × BitVec 32)
    (hv : (u (Shape.Idx.first h_S_), v (Shape.Idx.first h_S_)) = a) (j : S1024.Idx) :
    winners (F := Ideal) s y u v j = ((Host.argReduceFiber (α := EReal) s y reducesTo_S1024x8192_S1024_d1 j).foldl (reducer_argmax_f32_i32 (F := Ideal)) a).2 := by
  refine (congrFun (winners_eq (F := Ideal) s y u v) j).trans ?_
  have h := argMax_fold (reducer_argmax_f32_i32 (F := Ideal)) s y u v reducesTo_S1024x8192_S1024_d1 h_S_ j a hv
  exact congrArg Prod.snd h

/-- The reference's winner as a fold over the row's pairs. -/
theorem winner_eq (s : Vec Ideal S1024x8192 .f32) (i : Fin 1024) :
    winner s (ix1 i) = ((Host.argReduceFiber (α := EReal) s (iotaInDim S1024x8192 32 1) reducesTo_S1024x8192_S1024_d1 (ix1 i)).foldl
      (reducer_argmax_f32_i32 (F := Ideal)) ((⊥ : EReal), 0#32)).2 :=
  winners_fold s (iotaInDim S1024x8192 32 1) (constant (F := Ideal) S_ .f32 0xFF800000#32) (constantI S_ 32 0#32) _ init_eq (ix1 i)

/-- A fold over a row's pairs ends at the first place of the row's maximum. -/
theorem fold_first (s : Vec Ideal S1024x8192 .f32) (i : Fin 1024) (L : List (EReal × BitVec 32))
    (hL : ∀ p, p ∈ L ↔ ∃ n : Fin 8192, p = (s (ix2 i n), BitVec.ofNat 32 n.val)) :
    First (fun n => if h : n < 8192 then s (ix2 i ⟨n, h⟩) else ⊥) 8192 (L.foldl (reducer_argmax_f32_i32 (F := Ideal)) ((⊥ : EReal), 0#32)).2.toNat := by
  obtain ⟨hall, hin⟩ := foldl_lead (reducer_argmax_f32_i32 (F := Ideal)) BitVec.toInt reducer_eq L (⊥, 0#32)
  generalize L.foldl (reducer_argmax_f32_i32 (F := Ideal)) (⊥, 0#32) = R at hall hin
  have hall' : ∀ n : Fin 8192, s (ix2 i n) ≤ R.1 ∧ (s (ix2 i n) = R.1 → R.2.toInt ≤ n.val) := fun n => by
    have := hall _ (List.mem_cons_of_mem _ ((hL _).2 ⟨n, rfl⟩))
    rw [toInt_col] at this
    exact this
  have key : ∃ c : Fin 8192, R.2 = BitVec.ofNat 32 c.val ∧ R.1 = s (ix2 i c) := by
    rcases List.mem_cons.1 hin with e | e
    · refine ⟨⟨0, by omega⟩, by rw [e], le_antisymm (by rw [e]; exact bot_le) (hall' _).1⟩
    · obtain ⟨n, e⟩ := (hL _).1 e
      exact ⟨n, by rw [e], by rw [e]⟩
  obtain ⟨c, hc2, hc1⟩ := key
  rw [hc2]
  have hcn : (BitVec.ofNat 32 c.val).toNat = c.val := by
    rw [BitVec.toNat_ofNat, Nat.mod_eq_of_lt (by omega)]
  rw [hcn]
  simp only [hc2, hc1, toInt_col] at hall'
  refine ⟨c.isLt, fun j hj => ?_, fun j hj => ?_⟩
  · dsimp only
    rw [dif_pos hj, dif_pos c.isLt]
    exact (hall' ⟨j, hj⟩).1
  · dsimp only
    rw [dif_pos (hj.trans c.isLt), dif_pos c.isLt]
    refine lt_of_le_of_ne (hall' ⟨j, hj.trans c.isLt⟩).1 fun e => ?_
    have := (hall' ⟨j, hj.trans c.isLt⟩).2 e
    simp only at this
    omega

/-- The reference's winner is the first place of the row's maximum. -/
theorem winner_first (s : Vec Ideal S1024x8192 .f32) (i : Fin 1024) :
    First (fun n => if h : n < 8192 then s (ix2 i ⟨n, h⟩) else ⊥) 8192 (winner s (ix1 i)).toNat := by
  rw [winner_eq]
  exact fold_first s i _ fun p => mem_row s i p

/-! ## The responses -/

/-- Image `i`'s one is written in row zero … -/
theorem places_row (k : Vec Ideal S1024 .i32) (i : Fin 1024) : places (F := Ideal) k (ix2 i 0) = 0#32 := by
  unfold places pairUp
  pointwise
  rfl

/-- … at its winner's column. -/
theorem places_col (k : Vec Ideal S1024 .i32) (i : Fin 1024) (h : (k (ix1 i)).toNat < 8192) : places (F := Ideal) k (ix2 i 1) = k (ix1 i) := by
  refine Eq.trans ?_ (Routing.wrap_of_lt (k (ix1 i)) (k (ix1 i) + 8192#32) (by omega))
  unfold places pairUp
  pointwise
  rfl

/-- The scatter of the responses. -/
abbrev sc := scatter_S1024x8192_S1024x2_S1024_n_01_01_1

/-- Where word `q` of image `i`'s place is read. -/
theorem sc_siIdx (i : Fin 1024) (q : Fin 2) (h : List.idxOf q sc.scatterDimsToOperandDims < sc.scatterDimsToOperandDims.length) :
    sc.siIdx (ix1 i) ⟨List.idxOf q sc.scatterDimsToOperandDims, h⟩ = ix2 i q := by
  funext b
  apply Fin.ext
  match b with
  | ⟨0, _⟩ => fin_cases q <;> rfl
  | ⟨1, _⟩ => fin_cases q <;> rfl

/-- Image `i`'s one lands at `(r, y)` exactly when its two words, read signed, are `r` and `y`. -/
theorem sc_lands (idx : IVec S1024x2 32) (i : Fin 1024) (r : Fin 1024) (y : Fin 8192) :
    sc.resultIdx? (ix1 i) idx = some (ix2 r y) ↔ (idx (ix2 i 0)).toInt = r.val ∧ (idx (ix2 i 1)).toInt = y.val := by
  have hm : ∀ q : Fin 2, q ∈ sc.scatterDimsToOperandDims := fun q => by fin_cases q <;> decide
  have hs : ∀ q : Fin 2, sc.start (ix1 i) idx q = (idx (ix2 i q)).toInt := fun q => by
    unfold ScatterDims.start
    rw [dif_pos (hm q), sc_siIdx]
  have hw : ∀ q : Fin 2, sc.window (ix1 i) q = 0 := fun q => by fin_cases q <;> rfl
  have e := Routing.resultIdx?_eq_some sc (ix1 i) idx (ix2 r y)
  rw [e]
  constructor
  · intro h
    have h0 := h 0
    have h1 := h 1
    rw [hs, hw] at h0 h1
    simpa using And.intro h0 h1
  · rintro ⟨h0, h1⟩ q
    rw [hs, hw]
    fin_cases q
    · simpa using h0
    · simpa using h1

/-- A fold writing `b` wherever `P` holds ends at `b` when `P` holds of some member, and where it started otherwise. -/
theorem foldl_write {α β : Type} (P : α → Prop) [DecidablePred P] (b : β) : ∀ (L : List α) (a : β),
    L.foldl (fun a n => if P n then b else a) a = @ite β (∃ n ∈ L, P n) (Classical.dec _) b a
  | [], a => by simp
  | n :: L, a => by
    rw [List.foldl_cons, foldl_write P b L]
    by_cases h : ∃ m ∈ L, P m
    · obtain ⟨m, hm, hp⟩ := h
      rw [if_pos ⟨m, hm, hp⟩, if_pos ⟨m, List.mem_cons_of_mem _ hm, hp⟩]
    · rw [if_neg h]
      by_cases hn : P n
      · rw [if_pos hn, if_pos ⟨n, List.mem_cons_self, hn⟩]
      · rw [if_neg hn, if_neg]
        rintro ⟨m, hm, hp⟩
        rcases List.mem_cons.1 hm with rfl | hm
        · exact hn hp
        · exact h ⟨m, hm, hp⟩

/-- What a scatter that writes one value leaves at an element. -/
theorem scatter_write {β : Type} (x0 : S1024x8192.Idx → β) (idx : IVec S1024x2 32) (upd : S1024.Idx → β) (b : β) (hb : ∀ i, upd i = b)
    (r : Fin 1024) (y : Fin 8192) :
    Host.scatter sc (fun _ v => v) x0 idx upd (ix2 r y)
      = @ite β (∃ i : Fin 1024, (idx (ix2 i 0)).toInt = r.val ∧ (idx (ix2 i 1)).toInt = y.val) (Classical.dec _) b (x0 (ix2 r y)) := by
  rw [Routing.scatter_at]
  simp only [hb]
  rw [foldl_write (fun n => sc.resultIdx? (S1024.rowMajor.symm n) idx = some (ix2 r y))]
  have e : (∃ n ∈ List.finRange S1024.numel, sc.resultIdx? (S1024.rowMajor.symm n) idx = some (ix2 r y))
      ↔ ∃ i : Fin 1024, (idx (ix2 i 0)).toInt = r.val ∧ (idx (ix2 i 1)).toInt = y.val := by
    constructor
    · rintro ⟨n, -, h⟩
      obtain ⟨i, hi⟩ : ∃ i : Fin 1024, S1024.rowMajor.symm n = ix1 i := ⟨_, eq_ix1 _⟩
      rw [hi] at h
      exact ⟨i, (sc_lands idx i r y).1 h⟩
    · rintro ⟨i, h⟩
      refine ⟨S1024.rowMajor (ix1 i), List.mem_finRange _, ?_⟩
      rw [Equiv.symm_apply_apply]
      exact (sc_lands idx i r y).2 h
  by_cases h : ∃ i : Fin 1024, (idx (ix2 i 0)).toInt = r.val ∧ (idx (ix2 i 1)).toInt = y.val
  · rw [if_pos h, if_pos (e.2 h)]
  · rw [if_neg h, if_neg fun q => h (e.1 q)]

/-- What `responses` is. -/
theorem responses_eq {F : FTy → Type} [FloatOps F] (p : Vec F S1024x2 .i32) :
    responses (F := F) p = Host.scatter sc (fun _ b => b)
    (broadcastInDim S1024x8192 ![] bcast_S_S1024x8192 (constant (F := F) S_ .f32 0x00000000#32)) p
    (broadcastInDim S1024 ![] bcast_S_S1024 (constant (F := F) S_ .f32 0x3F800000#32)) := rfl

/-- The mark of column `y`: one where some image's winner is that column, zero elsewhere. -/
def mark (k : Fin 1024 → ℕ) (y : ℕ) : EReal := @ite EReal (∃ i, k i = y) (Classical.dec _) 1 0

/-- The responses: the marks in row zero, zeros elsewhere. -/
theorem responses_apply (k : Vec Ideal S1024 .i32) (h : ∀ i : Fin 1024, (k (ix1 i)).toNat < 8192) (r : Fin 1024) (y : Fin 8192) :
    responses (F := Ideal) (places (F := Ideal) k) (ix2 r y) = if r.val = 0 then mark (fun i => (k (ix1 i)).toNat) y.val else 0 := by
  refine (congrFun (responses_eq (F := Ideal) _) _).trans ?_
  refine (scatter_write _ (places (F := Ideal) k) _ (1 : EReal) (fun i => ?_) r y).trans ?_
  · idx_vars i
    pointwise
  · have ez : (broadcastInDim S1024x8192 ![] bcast_S_S1024x8192 (constant (F := Ideal) S_ .f32 0x00000000#32)) (ix2 r y) = (0 : EReal) := by
      pointwise
    have e : (∃ i : Fin 1024, (places (F := Ideal) k (ix2 i 0)).toInt = r.val ∧ (places (F := Ideal) k (ix2 i 1)).toInt = y.val)
        ↔ r.val = 0 ∧ ∃ i : Fin 1024, (k (ix1 i)).toNat = y.val := by
      constructor
      · rintro ⟨i, h0, h1⟩
        rw [places_row] at h0
        rw [places_col k i (h i), BitVec.toInt_eq_toNat_of_lt (by have := h i; omega)] at h1
        exact ⟨by simpa using h0.symm, i, by exact_mod_cast h1⟩
      · rintro ⟨h0, i, h1⟩
        refine ⟨i, ?_, ?_⟩
        · rw [places_row, h0]; rfl
        · rw [places_col k i (h i), BitVec.toInt_eq_toNat_of_lt (by have := h i; omega), h1]
    unfold mark
    by_cases h0 : r.val = 0
    · rw [if_pos h0]
      by_cases h1 : ∃ i : Fin 1024, (k (ix1 i)).toNat = y.val
      · rw [if_pos (e.2 ⟨h0, h1⟩), if_pos h1]
      · rw [if_neg fun q => h1 (e.1 q).2, if_neg h1]
        exact ez
    · rw [if_neg h0, if_neg fun q => h0 (e.1 q).1]
      exact ez

/-! ## The results -/

/-- What `outRef` is. -/
theorem outRef_eq {F : FTy → Type} [FloatOps F] (x : Vec F S1024x64x64 .f32) (w : Vec F S8192x4096 .f32) (wz : Vec F S1024x8192 .f32) (age : Vec F S1x8192 .f32) :
    outRef x w wz age = Host.dotGeneral dot_S1024x8192_S8192x1024_S1024x1024_1_0_0_1_n_n none
    (responses (places (F := F) (winner (scoresRef x w age)))) (transpose S8192x1024 [1, 0] (unitZ wz) transposes_S1024x8192_S8192x1024_1_0) := rfl

/-- The last product at an element. -/
theorem product_apply (p : Vec Ideal S1024x8192 .f32) (u : Vec Ideal S1024x8192 .f32) (r c : Fin 1024) :
    (Host.dotGeneral (F := Ideal) (φ₁ := .f32) (φ₂ := .f32) dot_S1024x8192_S8192x1024_S1024x1024_1_0_0_1_n_n none p (transpose S8192x1024 [1, 0] u transposes_S1024x8192_S8192x1024_1_0) : Vec Ideal S1024x1024 .f32) (ix2 r c)
      = ∑ y : Fin 8192, p (ix2 r y) * u (ix2 c y) := by
  pointwise

/-- The columns the winners name. -/
def winnerAt (x : Vec Ideal S1024x64x64 .f32) (w : Vec Ideal S8192x4096 .f32) (age : Vec Ideal S1x8192 .f32) (i : Fin 1024) : ℕ :=
  (winner (scoresRef x w age) (ix1 i)).toNat

/-- Each is the first place of the image's largest score. -/
theorem winnerAt_first (x : Vec Ideal S1024x64x64 .f32) (w : Vec Ideal S8192x4096 .f32) (age : Vec Ideal S1x8192 .f32) (i : Fin 1024) :
    First (fun n => if h : n < 8192 then score x w age i ⟨n, h⟩ else ⊥) 8192 (winnerAt x w age i) := by
  have h := winner_first (scoresRef x w age) i
  simp only [scoresRef_apply] at h
  exact h

/-- The first result at an element: in row zero the marked weights' sum, scaled by the row of weights' scale; zero in the other rows. -/
theorem outRef_apply (x : Vec Ideal S1024x64x64 .f32) (w : Vec Ideal S8192x4096 .f32) (wz : Vec Ideal S1024x8192 .f32) (age : Vec Ideal S1x8192 .f32) (r c : Fin 1024) :
    outRef (F := Ideal) x w wz age (ix2 r c)
      = if r.val = 0 then (∑ y : Fin 8192, wz (ix2 c y) * mark (winnerAt x w age) y.val) * scale (∑ y : Fin 8192, wz (ix2 c y) * wz (ix2 c y)) else 0 := by
  refine (congrFun (outRef_eq (F := Ideal) x w wz age) _).trans ?_
  refine (product_apply _ _ r c).trans ?_
  simp only [unitZ_apply]
  have e : ∀ y : Fin 8192, responses (F := Ideal) (places (F := Ideal) (winner (scoresRef x w age))) (ix2 r y)
      = if r.val = 0 then mark (winnerAt x w age) y.val else 0 :=
    fun y => responses_apply _ (fun i => (winnerAt_first x w age i).1) r y
  simp only [e]
  by_cases h0 : r.val = 0
  · simp only [if_pos h0]
    rw [← sum_mul _ _ (scale_nonneg _) (scale_ne_top _)]
    refine Finset.sum_congr rfl fun y _ => ?_
    rw [← mul_assoc, mul_comm (mark _ _)]
  · simp only [if_neg h0, zero_mul, Finset.sum_const_zero]

/-- The second result: the sum of the flags. -/
theorem countRef_apply (age : Vec Ideal S1x8192 .f32) (j : S_.Idx) :
    countRef (F := Ideal) age j = ∑ y : Fin 8192, old (age (ix2 0 y)) := by
  have h : countRef (F := Ideal) age j = 0 + ∑ i : S1x8192.Idx, active age i := by
    refine (Ideal.hostReduceAdd_total reducesTo_S1x8192_S_d0_1 (fun b => b.elim0) (active age) _ j).trans ?_
    congr 1
    pointwise
  rw [h, zero_add]
  refine (sum_idx2 (fun i => active age i)).trans ?_
  rw [Fin.sum_univ_one]
  exact Finset.sum_congr rfl fun y _ => active_apply age y

end Cert.ReferenceIdeal.Plain

end
-- ==== Proof.ValueBlocks.lean ====
/- What the three bodies compute over the extended reals, read at an index. -/
module

public import proofs.«01_k».proof.Proof.IdealBodies
public import proofs.«01_k».proof.Proof.ValueReference
public import Idealize.ShloMosaic.Lib.Pipeline.ValueKit.Tiles
public import Idealize.ShloMosaic.Lib.WordCmp

@[expose] public section

set_option maxRecDepth 16384

noncomputable section

namespace Cert.KernelIdeal.Whole

open Cert.KernelIdeal Cert.KernelIdeal.Gen Cert.ValueMath Idealize.ShloMosaic Idealize.SL.Sem
open Cert.ReferenceIdeal.Plain (old mark)

/-! ## The normalisation -/

/-- The one divided by a row's norm is the row's factor. -/
theorem one_div_den (s : EReal) : Ideal.div 1 (max (Ideal.sqrt s) eps) = scale s := by
  rw [div_den, one_mul]

/-- The first body's block: the element times its row's factor. -/
theorem norm_apply (x : Vec Ideal S512x4096 .f32) (i : Fin 512) (k : Fin 4096) :
    k0_pay1 (F := Ideal) x (ix2 i k) = x (ix2 i k) * scale (∑ l : Fin 4096, x (ix2 i l) * x (ix2 i l)) := by
  unfold k0_pay1
  pointwise
  exact congrArg _ (one_div_den _)

/-! ## The scores -/

/-- A block of scores at an element. -/
theorem scores_apply (xb : Vec Ideal S1024x4096 .bf16) (w : Vec Ideal S1024x4096 .f32) (a : Vec Ideal S1x1024 .f32) (i l : Fin 1024) :
    scores (F := Ideal) xb w a (ix2 i l)
      = (∑ k : Fin 4096, xb (ix2 i k) * w (ix2 l k)) * (scale (∑ k : Fin 4096, w (ix2 l k) * w (ix2 l k)) * old (a (ix2 0 l))) := by
  unfold scores k1_pay11
  pointwise
  exact congrArg _ (congrArg (· * old (a (ix2 0 l))) (one_div_den (∑ k : Fin 4096, w (ix2 l k) * w (ix2 l k))))

/-! ## One step of the scan -/

/-- The columns after one more group: the group's column where its score exceeds the maximum so far. -/
def sel {F : FTy → Type} [FloatOps F] (G M : FVec F S1024x128 .f32) (b : BitVec 32) (C : IVec S1024x128 32) : IVec S1024x128 32 :=
  select (cmpf .ogt G M) (addi laneNo (broadcast S1024x128 b)) C

/-- That choice at an element. -/
theorem sel_apply (G M : FVec Ideal S1024x128 .f32) (b : BitVec 32) (C : IVec S1024x128 32) (i : Fin 1024) (l : Fin 128) :
    sel (F := Ideal) G M b C (ix2 i l) = if M (ix2 i l) < G (ix2 i l) then BitVec.ofNat 32 l.val + b else C (ix2 i l) := by
  unfold sel laneNo
  pointwise
  rfl

/-- One step of the scan, at a lane: a group of scores whose places on that lane are `128 * n + l`. -/
theorem lead_step (f : ℕ → EReal) (i : Fin 1024) (l : Fin 128) (n : ℕ) (hn : n < 64) (G M : FVec Ideal S1024x128 .f32) (C : IVec S1024x128 32)
    (b : BitVec 32) (hb : b.toNat = 128 * n) (hG : G (ix2 i l) = f (128 * n + l.val))
    (h : Lead f l.val n (M (ix2 i l)) (C (ix2 i l)).toNat) :
    Lead f l.val (n + 1) ((maximumf G M : FVec Ideal S1024x128 .f32) (ix2 i l)) (sel (F := Ideal) G M b C (ix2 i l)).toNat := by
  have e : (maximumf G M : FVec Ideal S1024x128 .f32) (ix2 i l) = max (G (ix2 i l)) (M (ix2 i l)) := by pointwise
  have eb : (BitVec.ofNat 32 l.val + b).toNat = 128 * n + l.val := by
    rw [BitVec.toNat_add, BitVec.toNat_ofNat, hb]
    omega
  have h1 := h.succ
  rw [e, sel_apply, apply_ite BitVec.toNat, eb, hG]
  exact h1

/-! ## The result and the count -/

/-- The last body's block of the result. -/
theorem out_apply (w : Vec Ideal S256x8192 .f32) (z : Vec Ideal S8192 .f32) (r : Fin 1024) (c : Fin 256) :
    k2_pay3 (F := Ideal) w z (ix2 r c)
      = if r.val = 0 then (∑ y : Fin 8192, w (ix2 c y) * z (ix1 y)) * scale (∑ y : Fin 8192, w (ix2 c y) * w (ix2 c y)) else 0 := by
  unfold k2_pay3
  pointwise
  rw [WordCmp.cmpi_eq_eq_toNat, WordCmp.select_decide]
  have e : (BitVec.ofNat 32 r.val).toNat = (0#32).toNat ↔ r.val = 0 := by
    rw [BitVec.toNat_ofNat]
    have := r.isLt
    simp only [BitVec.toNat_ofNat]
    omega
  by_cases h : r.val = 0
  · rw [if_pos h, if_pos (e.2 h)]
    exact congrArg _ (one_div_den _)
  · rw [if_neg h, if_neg (fun q => h (e.1 q))]

/-- The last body's count. -/
theorem count_apply (a : Vec Ideal S1x8192 .f32) : k2_pay2 (F := Ideal) a (ix2 0 0) = ∑ y : Fin 8192, old (a (ix2 0 y)) := by
  unfold k2_pay2
  pointwise
  rfl

/-! ## The marks -/

/-- A comparison of words as a number. -/
theorem hit_eq (a b : BitVec 32) : (FloatOps.sitofp (F := Ideal) .f32 (BitVec.setWidth 32 (IntOp.cmpi .eq a b)) : EReal) = if a = b then 1 else 0 := by
  rw [WordCmp.cmpi_eq_eq]
  by_cases h : a = b
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    norm_num

/-- The largest of the images' comparisons with a column is that column's mark. -/
theorem fold_mark (z : Fin 1024 → BitVec 32) (v : BitVec 32) (y : ℕ) (hv : v.toNat = y) :
    Finset.fold max (Ideal.ofBits .f32 0xFF800000#32) (fun x => (FloatOps.sitofp (F := Ideal) .f32 (BitVec.setWidth 32 (IntOp.cmpi .eq (z x) v)) : EReal)) Finset.univ
      = mark (fun i => (z i).toNat) y := by
  have eb : Ideal.ofBits .f32 0xFF800000#32 = ⊥ := by simp [Ideal.ofBits, Ideal.ieee]
  simp only [hit_eq, eb]
  unfold mark
  by_cases h : ∃ i, (z i).toNat = y
  · rw [if_pos h]
    obtain ⟨i, hi⟩ := h
    refine le_antisymm ((Finset.fold_max_le _).2 ⟨bot_le, fun x _ => ?_⟩) ((Finset.le_fold_max _).2 (.inr ⟨i, Finset.mem_univ _, ?_⟩))
    · split
      · exact le_rfl
      · exact zero_le_one
    · rw [if_pos (BitVec.eq_of_toNat_eq (hi.trans hv.symm))]
  · rw [if_neg h]
    have e : ∀ x, z x ≠ v := fun x q => h ⟨x, by rw [q, hv]⟩
    simp only [if_neg (e _)]
    refine le_antisymm ((Finset.fold_max_le _).2 ⟨bot_le, fun x _ => le_rfl⟩) ((Finset.le_fold_max _).2 (.inr ⟨0, Finset.mem_univ _, le_rfl⟩))

/-- The marks of columns 0 to 2047. -/
theorem mark5 (z : Vec Ideal S1024 .i32) (y : Fin 2048) : k2_pay5 (F := Ideal) z (ix1 y) = mark (fun i => (z (ix1 i)).toNat) (0 + y.val) := by
  unfold k2_pay5 k2_pay4
  pointwise
  exact fold_mark (fun i => z (ix1 i)) _ _ (by simp only [IntOp.addi, BitVec.toNat_add, BitVec.toNat_ofNat]; omega)
/-- The marks of columns 2048 to 4095. -/
theorem mark6 (z : Vec Ideal S1024 .i32) (y : Fin 2048) : k2_pay6 (F := Ideal) z (ix1 y) = mark (fun i => (z (ix1 i)).toNat) (2048 + y.val) := by
  unfold k2_pay6 k2_pay4
  pointwise
  exact fold_mark (fun i => z (ix1 i)) _ _ (by simp only [IntOp.addi, BitVec.toNat_add, BitVec.toNat_ofNat]; omega)
/-- The marks of columns 4096 to 6143. -/
theorem mark7 (z : Vec Ideal S1024 .i32) (y : Fin 2048) : k2_pay7 (F := Ideal) z (ix1 y) = mark (fun i => (z (ix1 i)).toNat) (4096 + y.val) := by
  unfold k2_pay7 k2_pay4
  pointwise
  exact fold_mark (fun i => z (ix1 i)) _ _ (by simp only [IntOp.addi, BitVec.toNat_add, BitVec.toNat_ofNat]; omega)
/-- The marks of columns 6144 to 8191. -/
theorem mark8 (z : Vec Ideal S1024 .i32) (y : Fin 2048) : k2_pay1 (k2_pay8 (F := Ideal) z) (ix1 y) = mark (fun i => (z (ix1 i)).toNat) (6144 + y.val) := by
  unfold k2_pay1 k2_pay8 k2_pay4
  pointwise
  exact fold_mark (fun i => z (ix1 i)) _ _ (by simp only [IntOp.addi, BitVec.toNat_add, BitVec.toNat_ofNat]; omega)

/-- The mark the last body keeps for a column. -/
theorem marks_apply (z : Vec Ideal S1024 .i32) (y : Fin 8192) : marks (F := Ideal) z (ix1 y) = mark (fun i => (z (ix1 i)).toNat) y.val := by
  unfold marks
  refine View.canon_eq_of_allAt _ _ _ (marks_cover z _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · obtain ⟨b, rfl⟩ : ∃ b : Fin 2048, x = ix1 b := ⟨_, eq_ix1 _⟩
    exact (mark8 z b).trans (congrArg _ (hx 0).symm)
  · obtain ⟨b, rfl⟩ : ∃ b : Fin 2048, x = ix1 b := ⟨_, eq_ix1 _⟩
    exact (mark7 z b).trans (congrArg _ (hx 0).symm)
  · obtain ⟨b, rfl⟩ : ∃ b : Fin 2048, x = ix1 b := ⟨_, eq_ix1 _⟩
    exact (mark6 z b).trans (congrArg _ (hx 0).symm)
  · obtain ⟨b, rfl⟩ : ∃ b : Fin 2048, x = ix1 b := ⟨_, eq_ix1 _⟩
    exact (mark5 z b).trans (congrArg _ (hx 0).symm)

end Cert.KernelIdeal.Whole

end
-- ==== Proof.ValueScan.lean ====
/- The scan of the score columns over the extended reals: after each block of columns every lane holds the maximum it has seen and the
   first column at which it saw it, and the result of the last block is the first column of the row's maximum. -/
module

public import proofs.«01_k».proof.Proof.ValueBlocks

@[expose] public section

set_option maxRecDepth 16384

noncomputable section

namespace Cert.KernelIdeal.Whole

open Cert.KernelIdeal Cert.KernelIdeal.Gen Cert.ValueMath Idealize.ShloMosaic Idealize.SL.Sem

section Generic

variable {F : FTy → Type} [FloatOps F] (t : FVec F S1024x1024 .f32)

/-- The eight groups of 128 columns of a block of scores. -/
def group (g : Fin 8) : FVec F S1024x128 .f32 := match g with
  | 0 => extractStridedSlice S1024x128 ![0, 0] t slices_S1024x1024_o0_0_S1024x128
  | 1 => k1_pay16 t
  | 2 => k1_pay18 t
  | 3 => k1_pay20 t
  | 4 => k1_pay22 t
  | 5 => k1_pay25 t
  | 6 => k1_pay1 t
  | 7 => k1_pay3 t

/-- The maximum per row and lane after the first `n` groups, from `s`. -/
def runMax (s : FVec F S1024x128 .f32) : ℕ → FVec F S1024x128 .f32
  | 0 => s
  | n + 1 => maximumf (group t ⟨n % 8, Nat.mod_lt _ (by decide)⟩) (runMax s n)

/-- The number of a group's first column, as the body computes it. -/
def base (T : BitVec 32) (g : BitVec 32) : BitVec 32 := Scalar.addi (Scalar.addi (Scalar.muli T 1024#32) 0#32) g

/-- The column of that maximum after the first `n` groups, from `r`. -/
def runCol (T : BitVec 32) (s : FVec F S1024x128 .f32) (r : IVec S1024x128 32) : ℕ → IVec S1024x128 32
  | 0 => r
  | n + 1 => sel (group t ⟨n % 8, Nat.mod_lt _ (by decide)⟩) (runMax t s n) (base T (BitVec.ofNat 32 (128 * n))) (runCol T s r n)

end Generic

section Steps

variable {F : FTy → Type} [FloatOps F] (s : Vec F S1024x128 .f32) (r : Vec F S1024x128 .i32) (xb : Vec F S1024x4096 .bf16) (w : Vec F S1024x4096 .f32) (a : Vec F S1x1024 .f32)

/-- The maximum after the first six groups is the running one. -/
theorem max6_eq : k1_pay28 (scores xb w a) (k1_pay15 s w xb a) = runMax (scores xb w a) s 6 := rfl

/-- The maximum after the block is the running one. -/
theorem max8_eq : k1_pay4 (scores xb w a) (k1_pay28 (scores xb w a) (k1_pay15 s w xb a)) = runMax (scores xb w a) s 8 := rfl

/-- The columns after the first five groups are the running ones. -/
theorem col5_eq (i : grid1.Coords) : k1_pay24 (BitVec.ofNat 32 (i 0).val) r laneNo (scores xb w a) (k1_pay13 i) (k1_pay14 s w xb a) (k1_pay15 s w xb a)
    = runCol (scores xb w a) (BitVec.ofNat 32 (i 0).val) s r 5 := rfl

/-- The columns after the block are the running ones. -/
theorem col8_eq (i : grid1.Coords) : k1_pay5 (BitVec.ofNat 32 (i 0).val) laneNo (scores xb w a)
    (k1_pay24 (BitVec.ofNat 32 (i 0).val) r laneNo (scores xb w a) (k1_pay13 i) (k1_pay14 s w xb a) (k1_pay15 s w xb a))
    (k1_pay26 (BitVec.ofNat 32 (i 0).val) laneNo) (k1_pay27 (scores xb w a) (k1_pay15 s w xb a)) (k1_pay28 (scores xb w a) (k1_pay15 s w xb a))
    = runCol (scores xb w a) (BitVec.ofNat 32 (i 0).val) s r 8 := rfl

end Steps

/-- A group at an element. -/
theorem group_apply (t : FVec Ideal S1024x1024 .f32) (g : Fin 8) (i : Fin 1024) (l : Fin 128) :
    group t g (ix2 i l) = t (ix2 i ⟨128 * g.val + l.val, by omega⟩) := by
  fin_cases g
  · show extractStridedSlice S1024x128 ![0, 0] t slices_S1024x1024_o0_0_S1024x128 (ix2 i l) = _
    pointwise
  · show k1_pay16 t (ix2 i l) = _
    unfold k1_pay16; pointwise
  · show k1_pay18 t (ix2 i l) = _
    unfold k1_pay18; pointwise
  · show k1_pay20 t (ix2 i l) = _
    unfold k1_pay20; pointwise
  · show k1_pay22 t (ix2 i l) = _
    unfold k1_pay22; pointwise
  · show k1_pay25 t (ix2 i l) = _
    unfold k1_pay25; pointwise
  · show k1_pay1 t (ix2 i l) = _
    unfold k1_pay1; pointwise
  · show k1_pay3 t (ix2 i l) = _
    unfold k1_pay3; pointwise

/-- A group's first column as a number. -/
theorem base_toNat (T n : ℕ) (hT : T < 8) (hn : n < 8) : (base (BitVec.ofNat 32 T) (BitVec.ofNat 32 (128 * n))).toNat = 128 * (8 * T + n) := by
  simp only [base, Scalar.addi, Scalar.muli, IntOp.addi, IntOp.muli, BitVec.toNat_add, BitVec.toNat_mul, BitVec.toNat_ofNat]
  omega

/-- Each group of a block keeps a lane's maximum and the first column at which it was seen. -/
theorem lead_run (f : ℕ → EReal) (i : Fin 1024) (l : Fin 128) (T : ℕ) (hT : T < 8) (t : FVec Ideal S1024x1024 .f32)
    (ht : ∀ q : Fin 1024, t (ix2 i q) = f (1024 * T + q.val)) (s : FVec Ideal S1024x128 .f32) (r : IVec S1024x128 32)
    (h : Lead f l.val (8 * T) (s (ix2 i l)) (r (ix2 i l)).toNat) : ∀ n, n ≤ 8 →
    Lead f l.val (8 * T + n) (runMax t s n (ix2 i l)) (runCol t (BitVec.ofNat 32 T) s r n (ix2 i l)).toNat
  | 0, _ => h
  | n + 1, hn => by
    refine lead_step f i l (8 * T + n) (by omega) _ _ _ _ (base_toNat T n hT (by omega)) ?_ (lead_run f i l T hT t ht s r h n (by omega))
    rw [group_apply, ht]
    congr 1
    have : n % 8 = n := Nat.mod_eq_of_lt (by omega)
    simp only [this]
    omega

/-- A block of the scan keeps them. -/
theorem lead_block (f : ℕ → EReal) (i : Fin 1024) (l : Fin 128) (T : ℕ) (hT : T < 8) (p : grid1.Coords) (hp : (p 0).val = T)
    (s : Vec Ideal S1024x128 .f32) (r : Vec Ideal S1024x128 .i32) (xb : Vec Ideal S1024x4096 .bf16) (w : Vec Ideal S1024x4096 .f32) (a : Vec Ideal S1x1024 .f32)
    (ht : ∀ q : Fin 1024, scores (F := Ideal) xb w a (ix2 i q) = f (1024 * T + q.val))
    (h : Lead f l.val (8 * T) (s (ix2 i l)) (r (ix2 i l)).toNat) :
    Lead f l.val (8 * (T + 1)) (nextMax (F := Ideal) s xb w a (ix2 i l)) (nextCol (F := Ideal) p s r xb w a (ix2 i l)).toNat := by
  have e := lead_run f i l T hT _ ht s r h 8 le_rfl
  have e1 : nextMax (F := Ideal) s xb w a (ix2 i l) = runMax (scores (F := Ideal) xb w a) s 8 (ix2 i l) := by
    unfold nextMax k1_pay6
    rw [max8_eq]
    generalize runMax (scores (F := Ideal) xb w a) s 8 = v
    pointwise
  have e2 : nextCol (F := Ideal) p s r xb w a (ix2 i l) = runCol (scores (F := Ideal) xb w a) (BitVec.ofNat 32 (p 0).val) s r 8 (ix2 i l) := by
    unfold nextCol k1_pay7
    rw [col8_eq]
    generalize runCol (scores (F := Ideal) xb w a) (BitVec.ofNat 32 (p 0).val) s r 8 = v
    pointwise
  rw [e1, e2, hp]
  exact e

/-! ## The result -/

/-- The least column among the lanes that hold the row's maximum. -/
def pick {F : FTy → Type} [FloatOps F] (m : FVec F S1024x128 .f32) (c : IVec S1024x128 32) : IVec S1024 32 :=
  multiReductionI .minsi [1] S1024 (select (cmpf .oeq m (broadcastTo S1024x128 (shapeCast S1024x1
    (multiReduction .maximumf [1] S1024 m 0xFF800000#32 reduces_S1024x128_S1024 (.inl rfl) rfl : FVec F S1024 .f32) shapeCasts_S1024_S1024x1) broadcasts_S1024x1_S1024x128))
    c (broadcast S1024x128 8192#32)) 2147483647#32 reduces_S1024x128_S1024 rfl

/-- The second body's result is that column. -/
theorem best_eq {F : FTy → Type} [FloatOps F] (s : Vec F S1024x128 .f32) (r : Vec F S1024x128 .i32) (xb : Vec F S1024x4096 .bf16) (w : Vec F S1024x4096 .f32) (a : Vec F S1x1024 .f32)
    (i : grid1.Coords) : bestCol i s r xb w a = pick (runMax (scores xb w a) s 8) (runCol (scores xb w a) (BitVec.ofNat 32 (i 0).val) s r 8) := rfl

/-- The result of a row, as a fold over its lanes. -/
theorem pick_apply (m : FVec Ideal S1024x128 .f32) (c : IVec S1024x128 32) (i : Fin 1024) :
    pick (F := Ideal) m c (ix1 i) = Finset.fold IntOp.minsi 2147483647#32
      (fun l : Fin 128 => if m (ix2 i l) = Finset.fold max (Ideal.ofBits .f32 0xFF800000#32) (fun l : Fin 128 => m (ix2 i l)) Finset.univ then c (ix2 i l) else 8192#32) Finset.univ := by
  unfold pick
  pointwise

/-- The signed minimum of words below two to the thirty-first is the smaller. -/
theorem minsi_toNat (x y : BitVec 32) (hx : x.toNat < 2 ^ 31) (hy : y.toNat < 2 ^ 31) :
    IntOp.minsi x y = if x.toNat < y.toNat then x else y := by
  unfold IntOp.minsi
  rw [BitVec.slt_eq_decide, BitVec.toInt_eq_toNat_of_lt (by omega), BitVec.toInt_eq_toNat_of_lt (by omega)]
  simp only [Nat.cast_lt, decide_eq_true_eq]

/-- A fold of the signed minimum over such words is one of them, or the word it started from, and none is smaller. -/
theorem fold_minsi {ι : Type} (S : Finset ι) (v : ι → BitVec 32) (hv : ∀ l, (v l).toNat < 2 ^ 31) (b : BitVec 32) (hb : b.toNat < 2 ^ 31) :
    (∀ l ∈ S, (S.fold IntOp.minsi b v).toNat ≤ (v l).toNat) ∧ (S.fold IntOp.minsi b v = b ∨ ∃ l ∈ S, S.fold IntOp.minsi b v = v l)
      ∧ (S.fold IntOp.minsi b v).toNat < 2 ^ 31 := by
  classical
  induction S using Finset.induction_on with
  | empty => exact ⟨fun l h => absurd h (Finset.notMem_empty l), .inl rfl, hb⟩
  | insert x S hx ih =>
    obtain ⟨h1, h2, h3⟩ := ih
    rw [Finset.fold_insert hx, minsi_toNat _ _ (hv x) h3]
    by_cases h : (v x).toNat < (S.fold IntOp.minsi b v).toNat
    · rw [if_pos h]
      refine ⟨fun l hl => ?_, .inr ⟨x, Finset.mem_insert_self _ _, rfl⟩, hv x⟩
      rcases Finset.mem_insert.1 hl with rfl | hl
      · exact le_rfl
      · exact h.le.trans (h1 l hl)
    · rw [if_neg h]
      refine ⟨fun l hl => ?_, ?_, h3⟩
      · rcases Finset.mem_insert.1 hl with rfl | hl
        · exact not_lt.1 h
        · exact h1 l hl
      · rcases h2 with h2 | ⟨l, hl, h2⟩
        · exact .inl h2
        · exact .inr ⟨l, Finset.mem_insert_of_mem hl, h2⟩

/-- The result of a row is the first place of the row's largest score. -/
theorem pick_first (f : ℕ → EReal) (i : Fin 1024) (m : FVec Ideal S1024x128 .f32) (c : IVec S1024x128 32)
    (h : ∀ l : Fin 128, Lead f l.val 64 (m (ix2 i l)) (c (ix2 i l)).toNat) : First f 8192 (pick (F := Ideal) m c (ix1 i)).toNat := by
  rw [pick_apply]
  have eb : Ideal.ofBits .f32 0xFF800000#32 = ⊥ := by simp [Ideal.ofBits, Ideal.ieee]
  rw [eb]
  set M : EReal := Finset.fold max ⊥ (fun l : Fin 128 => m (ix2 i l)) Finset.univ with hM
  have hle : ∀ l : Fin 128, m (ix2 i l) ≤ M := fun l => (Finset.le_fold_max _).2 (.inr ⟨l, Finset.mem_univ _, le_rfl⟩)
  have hat : ∃ l : Fin 128, m (ix2 i l) = M := by
    rcases (Finset.le_fold_max M).1 hM.le with q | ⟨l, -, q⟩
    · exact ⟨0, le_antisymm (hle 0) (q.trans bot_le)⟩
    · exact ⟨l, le_antisymm (hle l) q⟩
  have hc : ∀ l : Fin 128, (c (ix2 i l)).toNat < 8192 := fun l => by
    rcases (h l).2 with ⟨-, q⟩ | ⟨q, hq, q', -⟩
    · omega
    · have := l.isLt
      omega
  obtain ⟨h1, h2, -⟩ := fold_minsi (Finset.univ : Finset (Fin 128)) (fun l : Fin 128 => if m (ix2 i l) = M then c (ix2 i l) else 8192#32)
    (fun l => by
      split
      · have := hc l; omega
      · decide) 2147483647#32 (by decide)
  generalize Finset.fold IntOp.minsi 2147483647#32 (fun l : Fin 128 => if m (ix2 i l) = M then c (ix2 i l) else 8192#32) Finset.univ = d at h1 h2
  have hmin : ∀ l : Fin 128, m (ix2 i l) = M → d.toNat ≤ (c (ix2 i l)).toNat := fun l q => by
    have := h1 l (Finset.mem_univ _)
    rwa [if_pos q] at this
  have hlt : d.toNat < 8192 := by
    obtain ⟨l, q⟩ := hat
    exact lt_of_le_of_lt (hmin l q) (hc l)
  have hd : ∃ l : Fin 128, m (ix2 i l) = M ∧ d = c (ix2 i l) := by
    rcases h2 with h2 | ⟨l, -, h2⟩
    · rw [h2] at hlt; exact absurd hlt (by decide)
    · by_cases q : m (ix2 i l) = M
      · rw [if_pos q] at h2; exact ⟨l, q, h2⟩
      · rw [if_neg q] at h2; rw [h2] at hlt; exact absurd hlt (by decide)
  obtain ⟨l, q, hl⟩ := hd
  refine first_of_leads (n := 64) (by decide) (fun l => if h : l < 128 then m (ix2 i ⟨l, h⟩) else ⊥) (fun l => if h : l < 128 then (c (ix2 i ⟨l, h⟩)).toNat else 0)
    (M := M) (fun l hl => ?_) (fun l hl => ?_) ⟨l.val, l.isLt, ?_, ?_⟩ (fun l hl e => ?_)
  · simp only [dif_pos hl]; exact h ⟨l, hl⟩
  · simp only [dif_pos hl]; exact hle ⟨l, hl⟩
  · simp only [dif_pos l.isLt]; exact q
  · simp only [dif_pos l.isLt]; rw [hl]
  · simp only [dif_pos hl] at e ⊢; exact hmin ⟨l, hl⟩ e

/-- The second body's result at its last block is the first place of the row's largest score. -/
theorem best_first (f : ℕ → EReal) (i : Fin 1024) (p : grid1.Coords) (hp : (p 0).val = 7)
    (s : Vec Ideal S1024x128 .f32) (r : Vec Ideal S1024x128 .i32) (xb : Vec Ideal S1024x4096 .bf16) (w : Vec Ideal S1024x4096 .f32) (a : Vec Ideal S1x1024 .f32)
    (ht : ∀ q : Fin 1024, scores (F := Ideal) xb w a (ix2 i q) = f (1024 * 7 + q.val))
    (h : ∀ l : Fin 128, Lead f l.val (8 * 7) (s (ix2 i l)) (r (ix2 i l)).toNat) : First f 8192 (bestCol (F := Ideal) p s r xb w a (ix1 i)).toNat := by
  rw [best_eq, hp]
  exact pick_first f i _ _ fun l => lead_run f i l 7 (by decide) _ ht s r (h l) 8 le_rfl

/-- Before the first block nothing was seen. -/
theorem start_lead (f : ℕ → EReal) (i : Fin 1024) (l : Fin 128) :
    Lead f l.val 0 (k1_pay9 (F := Ideal) (ix2 i l)) (k1_pay10 (ix2 i l)).toNat := by
  have e1 : k1_pay9 (F := Ideal) (ix2 i l) = ⊥ := by
    unfold k1_pay9
    pointwise
    simp [Ideal.ofBits, Ideal.ieee]
  have e2 : k1_pay10 (ix2 i l) = 0#32 := by
    unfold k1_pay10
    pointwise
  rw [e1, e2]
  exact Lead.zero f l.val

end Cert.KernelIdeal.Whole

end
-- ==== Proof.ValueArrays.lean ====
/- What the three calls leave in their arrays over the extended reals, read at an index. -/
module

public import proofs.«01_k».proof.Proof.IdealRun
public import proofs.«01_k».proof.Proof.ValueScan
public import Idealize.ShloMosaic.Lib.Pipeline.ValueKit

@[expose] public section

set_option maxRecDepth 16384

noncomputable section

namespace Cert.KernelIdeal.Whole

open Cert.KernelIdeal Cert.KernelIdeal.Gen Cert.ValueMath Idealize.ShloMosaic Idealize.ShloMosaic.TcCoe Idealize.SL.Sem
open Cert.ReferenceIdeal.Plain (old mark flat score winnerAt)

variable (W : Entry Ideal) (c : Dev nD)

/-! ## The arrays the calls read -/

/-- The rows divided by their norms, as a call finds them. -/
abbrev inX : Vec Ideal S1024x4096 .bf16 := W c main_call0_v1
/-- The first array of weights, as a call finds it. -/
abbrev inW : Vec Ideal S8192x4096 .f32 := W c main_arg3
/-- The second array of weights, as a call finds it. -/
abbrev inZ : Vec Ideal S1024x8192 .f32 := W c main_arg5
/-- The ages, as a call finds them. -/
abbrev inAge : Vec Ideal S1x8192 .f32 := W c main_arg6
/-- The columns, as a call finds them. -/
abbrev inCol : Vec Ideal S1024 .i32 := W c main_call0_v2

/-! ## The points and the blocks -/

/-- Call 0 has two points. -/
theorem lt0 (t : Fin cfg0.N) : t.val < 2 := t.isLt.trans_eq N_0
/-- Call 1 has eight points. -/
theorem lt1 (t : Fin cfg1.N) : t.val < 8 := t.isLt.trans_eq N_1
/-- Call 2 has four points. -/
theorem lt2 (t : Fin cfg2.N) : t.val < 4 := t.isLt.trans_eq N_2

/-- At each point of call 0 the block of the rows. -/
theorem idx0_0 : ∀ t : Fin grid0.N, win0_0.index t = ![t.val, 0] := by decide +kernel
/-- At each point of call 0 the block of the divided rows. -/
theorem idx0_1 : ∀ t : Fin grid0.N, win0_1.index t = ![t.val, 0] := by decide +kernel
/-- At each point of call 1 the block of the divided rows. -/
theorem idx1_0 : ∀ t : Fin grid1.N, win1_0.index t = ![0, 0] := by decide +kernel
/-- At each point of call 1 the block of the weights. -/
theorem idx1_1 : ∀ t : Fin grid1.N, win1_1.index t = ![t.val, 0] := by decide +kernel
/-- At each point of call 1 the block of the ages. -/
theorem idx1_2 : ∀ t : Fin grid1.N, win1_2.index t = ![0, t.val] := by decide +kernel
/-- At each point of call 1 the block of the columns. -/
theorem idx1_3 : ∀ t : Fin grid1.N, win1_3.index t = ![0] := by decide +kernel
/-- At each point of call 2 the block of the columns. -/
theorem idx2_0 : ∀ t : Fin grid2.N, win2_0.index t = ![0] := by decide +kernel
/-- At each point of call 2 the block of the weights. -/
theorem idx2_1 : ∀ t : Fin grid2.N, win2_1.index t = ![t.val, 0] := by decide +kernel
/-- At each point of call 2 the block of the ages. -/
theorem idx2_2 : ∀ t : Fin grid2.N, win2_2.index t = ![0, 0] := by decide +kernel
/-- At each point of call 2 the block of the result. -/
theorem idx2_3 : ∀ t : Fin grid2.N, win2_3.index t = ![0, t.val] := by decide +kernel
/-- At each point of call 2 the block of the count. -/
theorem idx2_4 : ∀ t : Fin grid2.N, win2_4.index t = ![0, 0] := by decide +kernel

/-- Where an element of a block of the rows of call 0 lies in its array. -/
theorem emb0_0 (t : Fin cfg0.N) (i : Fin 512) (k : Fin 4096) : ((cfg0.win 0).blk t).view.emb (ix2 i k) = ix2 ⟨512 * t.val + i.val, by have := lt0 t; omega⟩ k := by
  funext a
  apply Fin.ext
  match a with
  | ⟨0, _⟩ => blk_simp [idx0_0] <;> simp <;> omega
  | ⟨1, _⟩ => blk_simp [idx0_0] <;> simp <;> omega
/-- Where an element of a block of the divided rows of call 0 lies in its array. -/
theorem emb0_1 (t : Fin cfg0.N) (i : Fin 512) (k : Fin 4096) : ((cfg0.win 1).blk t).view.emb (ix2 i k) = ix2 ⟨512 * t.val + i.val, by have := lt0 t; omega⟩ k := by
  funext a
  apply Fin.ext
  match a with
  | ⟨0, _⟩ => blk_simp [idx0_1] <;> simp <;> omega
  | ⟨1, _⟩ => blk_simp [idx0_1] <;> simp <;> omega
/-- Where an element of a block of the divided rows of call 1 lies in its array. -/
theorem emb1_0 (t : Fin cfg1.N) (i : Fin 1024) (k : Fin 4096) : ((cfg1.win 0).blk t).view.emb (ix2 i k) = ix2 i k := by
  funext a
  apply Fin.ext
  match a with
  | ⟨0, _⟩ => blk_simp [idx1_0] <;> simp <;> omega
  | ⟨1, _⟩ => blk_simp [idx1_0] <;> simp <;> omega
/-- Where an element of a block of the weights of call 1 lies in its array. -/
theorem emb1_1 (t : Fin cfg1.N) (i : Fin 1024) (k : Fin 4096) : ((cfg1.win 1).blk t).view.emb (ix2 i k) = ix2 ⟨1024 * t.val + i.val, by have := lt1 t; omega⟩ k := by
  funext a
  apply Fin.ext
  match a with
  | ⟨0, _⟩ => blk_simp [idx1_1] <;> simp <;> omega
  | ⟨1, _⟩ => blk_simp [idx1_1] <;> simp <;> omega
/-- Where an element of a block of the ages of call 1 lies in its array. -/
theorem emb1_2 (t : Fin cfg1.N) (z : Fin 1) (k : Fin 1024) : ((cfg1.win 2).blk t).view.emb (ix2 z k) = ix2 z ⟨1024 * t.val + k.val, by have := lt1 t; omega⟩ := by
  funext a
  apply Fin.ext
  match a with
  | ⟨0, _⟩ => blk_simp [idx1_2] <;> simp <;> omega
  | ⟨1, _⟩ => blk_simp [idx1_2] <;> simp <;> omega
/-- Where an element of a block of the columns of call 2 lies in its array. -/
theorem emb2_0 (t : Fin cfg2.N) (i : Fin 1024) : ((cfg2.win 0).blk t).view.emb (ix1 i) = ix1 i := by
  funext a
  apply Fin.ext
  match a with
  | ⟨0, _⟩ => blk_simp [idx2_0] <;> simp <;> omega
/-- Where an element of a block of the weights of call 2 lies in its array. -/
theorem emb2_1 (t : Fin cfg2.N) (i : Fin 256) (k : Fin 8192) : ((cfg2.win 1).blk t).view.emb (ix2 i k) = ix2 ⟨256 * t.val + i.val, by have := lt2 t; omega⟩ k := by
  funext a
  apply Fin.ext
  match a with
  | ⟨0, _⟩ => blk_simp [idx2_1] <;> simp <;> omega
  | ⟨1, _⟩ => blk_simp [idx2_1] <;> simp <;> omega
/-- Where an element of a block of the ages of call 2 lies in its array. -/
theorem emb2_2 (t : Fin cfg2.N) (z : Fin 1) (k : Fin 8192) : ((cfg2.win 2).blk t).view.emb (ix2 z k) = ix2 z k := by
  funext a
  apply Fin.ext
  match a with
  | ⟨0, _⟩ => blk_simp [idx2_2] <;> simp <;> omega
  | ⟨1, _⟩ => blk_simp [idx2_2] <;> simp <;> omega
/-- Where an element of a block of the result of call 2 lies in its array. -/
theorem emb2_3 (t : Fin cfg2.N) (r : Fin 1024) (k : Fin 256) : ((cfg2.win 3).blk t).view.emb (ix2 r k) = ix2 r ⟨256 * t.val + k.val, by have := lt2 t; omega⟩ := by
  funext a
  apply Fin.ext
  match a with
  | ⟨0, _⟩ => blk_simp [idx2_3] <;> simp <;> omega
  | ⟨1, _⟩ => blk_simp [idx2_3] <;> simp <;> omega

/-! ## Call 0 -/

/-- The block of rows read at a point of call 0. -/
theorem blk0_0 (t : Fin cfg0.N) (i : Fin 512) (k : Fin 4096) :
    blk0 W c 0 t (ix2 i k) = W c main_call0_v0 (ix2 ⟨512 * t.val + i.val, by have := lt0 t; omega⟩ k) := by
  unfold blk0
  exact congrArg (W c main_call0_v0) (emb0_0 t i k)

/-- The rows divided by their norms. -/
def unitRows (v : Vec Ideal S1024x4096 .f32) : Vec Ideal S1024x4096 .bf16 :=
  fun j => v j * scale (∑ l : Fin 4096, v (ix2 (j 0) l) * v (ix2 (j 0) l))

/-- The array that call 0 leaves. -/
theorem arr0 : (dat0 W c).arrAt 1 cfg0.N = unitRows (W c main_call0_v0) := by
  refine (dat0 W c).arrAt_eq_of_covers 1 _ (by decide +kernel) fun t hf y => ?_
  blk_simp
  obtain ⟨i, k, rfl⟩ : ∃ (i : Fin 512) (k : Fin 4096), y = ix2 i k := ⟨_, _, eq_ix2 _⟩
  rw [dat0_after1]
  refine (norm_apply _ i k).trans ?_
  simp only [blk0_0]
  exact (congrArg (unitRows (W c main_call0_v0)) (emb0_1 t i k)).symm

/-! ## Call 1 -/

/-- The rows of call 1. -/
theorem blk1_0 (t : Fin cfg1.N) (i : Fin 1024) (k : Fin 4096) : blk1 W c 0 t (ix2 i k) = inX W c (ix2 i k) := by
  unfold blk1
  exact congrArg (W c main_call0_v1) (emb1_0 t i k)
/-- The block of weights read at a point of call 1. -/
theorem blk1_1 (t : Fin cfg1.N) (i : Fin 1024) (k : Fin 4096) :
    blk1 W c 1 t (ix2 i k) = inW W c (ix2 ⟨1024 * t.val + i.val, by have := lt1 t; omega⟩ k) := by
  unfold blk1
  exact congrArg (W c main_arg3) (emb1_1 t i k)
/-- The block of ages read at a point of call 1. -/
theorem blk1_2 (t : Fin cfg1.N) (z : Fin 1) (k : Fin 1024) :
    blk1 W c 2 t (ix2 z k) = inAge W c (ix2 z ⟨1024 * t.val + k.val, by have := lt1 t; omega⟩) := by
  unfold blk1
  exact congrArg (W c main_arg6) (emb1_2 t z k)

/-- The scores of row `i` that call 1 computes. -/
def callRow (i : Fin 1024) (n : ℕ) : EReal :=
  if h : n < 8192 then
    (∑ k : Fin 4096, inX W c (ix2 i k) * inW W c (ix2 ⟨n, h⟩ k))
      * (scale (∑ k : Fin 4096, inW W c (ix2 ⟨n, h⟩ k) * inW W c (ix2 ⟨n, h⟩ k))
        * old (inAge W c (ix2 0 ⟨n, h⟩)))
  else ⊥

/-- A block's scores are the row's. -/
theorem scores_row (t : Fin cfg1.N) (i q : Fin 1024) :
    scores (F := Ideal) (blk1 W c 0 t) (blk1 W c 1 t) (blk1 W c 2 t) (ix2 i q) = callRow W c i (1024 * t.val + q.val) := by
  refine (scores_apply (blk1 W c 0 t) (blk1 W c 1 t) (blk1 W c 2 t) i q).trans ?_
  unfold callRow
  rw [dif_pos (by have := lt1 t; omega)]
  simp only [blk1_0, blk1_1, blk1_2]

/-- A point's grid coordinate in call 1 is its number. -/
theorem coord1 (t : Fin cfg1.N) : (grid1.coords t 0).val = t.val := by
  have := lt1 t
  have e : (grid1.coords t 0).val = t.val / 1 % 8 := Pipeline.Grid.coords_val t 0 (by decide) rfl
  omega

/-- Before each point every lane holds the maximum it has seen and its first column. -/
theorem scan_lead (i : Fin 1024) (l : Fin 128) : ∀ (n : ℕ) (hn : n ≤ cfg1.N),
    Lead (callRow W c i) l.val (8 * n) ((scan W c n hn).1 (ix2 i l)) ((scan W c n hn).2 (ix2 i l)).toNat
  | 0, _ => start_lead _ i l
  | n + 1, hn => lead_block (callRow W c i) i l n (lt1 ⟨n, hn⟩) (grid1.coords ⟨n, hn⟩) (coord1 ⟨n, hn⟩) _ _ _ _ _
      (fun q => scores_row W c ⟨n, hn⟩ i q) (scan_lead i l n (Nat.le_of_lt hn))

/-- The array that call 1 leaves holds, per row, the first place of the row's largest score. -/
theorem arr1 (i : Fin 1024) : First (callRow W c i) 8192 (((dat1 W c).arrAt 3 cfg1.N : Vec Ideal S1024 .i32) (ix1 i)).toNat := by
  have e : (dat1 W c).arrAt 3 cfg1.N = (dat1 W c).after 3 t1_7 := by
    refine (dat1 W c).arrAt_eq_of_after_last 3 t1_7 (by decide +kernel) _ fun j => ?_
    blk_simp
  rw [e, dat1_after3]
  exact best_first (callRow W c i) i (grid1.coords t1_7) (coord1 t1_7) _ _ _ _ _ (fun q => scores_row W c t1_7 i q)
    fun l => scan_lead W c i l 7 _

/-! ## Call 2 -/

/-- The columns call 2 reads. -/
theorem blk2_0 (t : Fin cfg2.N) (i : Fin 1024) : blk2 W c 0 t (ix1 i) = inCol W c (ix1 i) := by
  unfold blk2
  exact congrArg (W c main_call0_v2) (emb2_0 t i)
/-- The block of weights read at a point of call 2. -/
theorem blk2_1 (t : Fin cfg2.N) (i : Fin 256) (k : Fin 8192) :
    blk2 W c 1 t (ix2 i k) = inZ W c (ix2 ⟨256 * t.val + i.val, by have := lt2 t; omega⟩ k) := by
  unfold blk2
  exact congrArg (W c main_arg5) (emb2_1 t i k)
/-- The ages call 2 reads. -/
theorem blk2_2 (t : Fin cfg2.N) (z : Fin 1) (k : Fin 8192) : blk2 W c 2 t (ix2 z k) = inAge W c (ix2 z k) := by
  unfold blk2
  exact congrArg (W c main_arg6) (emb2_2 t z k)

/-- The result that call 2 computes. -/
def callOut : Vec Ideal S1024x1024 .f32 := fun j =>
  if (j 0).val = 0 then
    (∑ y : Fin 8192, inZ W c (ix2 (j 1) y) * mark (fun i => (inCol W c (ix1 i)).toNat) y.val)
      * scale (∑ y : Fin 8192, inZ W c (ix2 (j 1) y) * inZ W c (ix2 (j 1) y))
  else 0

/-- The array that call 2 leaves. -/
theorem arr2 : (dat2 W c).arrAt 3 cfg2.N = callOut W c := by
  refine (dat2 W c).arrAt_eq_of_covers 3 _ (by decide +kernel) fun t hf y => ?_
  blk_simp
  obtain ⟨r, k, rfl⟩ : ∃ (r : Fin 1024) (k : Fin 256), y = ix2 r k := ⟨_, _, eq_ix2 _⟩
  rw [dat2_after3]
  refine (out_apply _ _ r k).trans ?_
  simp only [blk2_1, marksOf, marks_apply, blk2_0]
  exact (congrArg (callOut W c) (emb2_3 t r k)).symm

/-- The count that call 2 leaves. -/
theorem arr2_count : ((dat2 W c).arrAt 4 cfg2.N : Vec Ideal S1x1 .f32) (ix2 0 0) = ∑ y : Fin 8192, old (inAge W c (ix2 0 y)) := by
  have e : (dat2 W c).arrAt 4 cfg2.N = (dat2 W c).after 4 t2_3 := by
    refine (dat2 W c).arrAt_eq_of_after_last 4 t2_3 (by decide +kernel) _ fun j => ?_
    blk_simp
  rw [e, dat2_after4]
  refine (count_apply (blk2 W c 2 t2_0)).trans ?_
  simp only [blk2_2]

end Cert.KernelIdeal.Whole

end
-- ==== Proof.ValueResult.lean ====
/- The kernel's two results over the extended reals are the reference's two values of the arguments. -/
module

public import proofs.«01_k».proof.Proof.ValueArrays

@[expose] public section

set_option maxRecDepth 16384

noncomputable section

namespace Cert.KernelIdeal.Whole

open Cert.KernelIdeal Cert.KernelIdeal.Gen Cert.ValueMath Idealize.ShloMosaic Idealize.ShloMosaic.TcCoe Idealize.SL.Sem
open Cert.ReferenceIdeal.Plain (old mark flat score winnerAt winnerAt_first outRef countRef outRef_apply countRef_apply)

/-! ## The two reshapes, over any float values -/

section Reshapes

variable {F : FTy → Type} [FloatOps F]

/-- The opening reshape makes the rows that the first call reads. -/
theorem rows_of (V : Valuation τ sig (Elt F)) :
    (StableHlo.after hostOps0 V main_call0_v0 : Vec F S1024x4096 .f32)
      = shapeCast S1024x4096 (V main_arg0 : Vec F S1024x64x64 .f32) shapeCasts_S1024x64x64_S1024x4096 := by
  after_results
  rfl

/-- The closing reshape drops the count's two axes. -/
theorem count_of (V : Valuation τ sig (Elt F)) :
    (StableHlo.after hostOps3 V main_v0_1 : Vec F S_ .f32)
      = shapeCast S_ (V main_call0_v3_1 : Vec F S1x1 .f32) shapeCasts_S1x1_S_ := by
  after_results
  rfl

/-- The closing reshape leaves the first result alone. -/
theorem out_of (V : Valuation τ sig (Elt F)) : StableHlo.after hostOps3 V main_v0_0 = V main_v0_0 :=
  StableHlo.after_of_writes_sub hostOps3 _ hostOps3_writes (by decide)

end Reshapes

variable (m : (ℓ : Loc nD τ sig) → Buf (Elt Ideal) ℓ) (c : Dev nD)

/-! ## What each call finds -/

/-- The images, as launched. -/
abbrev argX : Vec Ideal S1024x64x64 .f32 := m ((c : Thread nD τ).loc main_arg0)
/-- The first array of weights, as launched. -/
abbrev argW : Vec Ideal S8192x4096 .f32 := m ((c : Thread nD τ).loc main_arg3)
/-- The second array of weights, as launched. -/
abbrev argZ : Vec Ideal S1024x8192 .f32 := m ((c : Thread nD τ).loc main_arg5)
/-- The ages, as launched. -/
abbrev argAge : Vec Ideal S1x8192 .f32 := m ((c : Thread nD τ).loc main_arg6)

/-- A row the first call reads is a flattened image. -/
theorem rows_apply (i : Fin 1024) (k : Fin 4096) :
    (V1 m c main_call0_v0 : Vec Ideal S1024x4096 .f32) (ix2 i k) = flat (argX m c) i k := by
  refine (congrFun (rows_of (V0 m c)) (ix2 i k)).trans ?_
  pointwise [flat]

/-- The second call finds the rows divided by their norms. -/
theorem X2_rows : inX (X2 m) c = unitRows (V1 m c main_call0_v0) := by
  unfold inX X2
  rw [Function.update_self]
  exact arr0 (V1 m) c

/-- A buffer that neither the opening reshape nor the first call writes is as launched. -/
theorem X2_of (r : Ref sig .tc) (h : r ≠ main_call0_v1) (h0 : r ∉ hostOps0_W) : X2 m c r = m ((c : Thread nD τ).loc r) := by
  unfold X2
  rw [Function.update_of_ne (StableHlo.devRef_ne_of_ne h : (Proc.devRef .tc r : DevRef τ sig) ≠ Proc.devRef .tc main_call0_v1)]
  exact V1_of m c r h0

/-- The same after the second call. -/
theorem X3_of (r : Ref sig .tc) (h : r ≠ main_call0_v1) (h0 : r ∉ hostOps0_W) (h2 : r ≠ main_call0_v2) :
    X3 m c r = m ((c : Thread nD τ).loc r) := by
  unfold X3
  rw [Function.update_of_ne (StableHlo.devRef_ne_of_ne h2 : (Proc.devRef .tc r : DevRef τ sig) ≠ Proc.devRef .tc main_call0_v2)]
  exact X2_of m c r h h0

/-- Call 1 finds the first weights as launched. -/
theorem X2_W : inW (X2 m) c = argW m c := X2_of m c main_arg3 (by decide) (by decide)
/-- Call 1 finds the ages as launched. -/
theorem X2_age : inAge (X2 m) c = argAge m c := X2_of m c main_arg6 (by decide) (by decide)
/-- Call 2 finds the second weights as launched. -/
theorem X3_Z : inZ (X3 m) c = argZ m c := X3_of m c main_arg5 (by decide) (by decide) (by decide)
/-- Call 2 finds the ages as launched. -/
theorem X3_age : inAge (X3 m) c = argAge m c := X3_of m c main_arg6 (by decide) (by decide) (by decide)

/-- The third call finds the second's columns. -/
theorem X3_col : inCol (X3 m) c = (dat1 (X2 m) c).arrAt 3 cfg1.N := by
  unfold inCol X3
  rw [Function.update_self]

/-! ## The columns are the winners -/

/-- The scores that the second call computes are the reference's. -/
theorem callRow_eq (i : Fin 1024) :
    callRow (X2 m) c i = fun n => if h : n < 8192 then score (argX m c) (argW m c) (argAge m c) i ⟨n, h⟩ else ⊥ := by
  funext n
  unfold callRow
  by_cases h : n < 8192
  · rw [dif_pos h, dif_pos h, X2_rows, X2_W, X2_age]
    have e : ∀ k : Fin 4096, unitRows (V1 m c main_call0_v0) (ix2 i k)
        = flat (argX m c) i k * scale (∑ l : Fin 4096, flat (argX m c) i l * flat (argX m c) i l) := by
      intro k
      rw [← rows_apply m c i k]
      simp only [← rows_apply m c i]
      rfl
    simp only [e]
    rfl
  · rw [dif_neg h, dif_neg h]

/-- The column kept for each image is the reference's winner. -/
theorem col_winner (i : Fin 1024) :
    (inCol (X3 m) c (ix1 i)).toNat = winnerAt (argX m c) (argW m c) (argAge m c) i := by
  have h := arr1 (X2 m) c i
  rw [callRow_eq] at h
  rw [X3_col]
  exact h.unique (winnerAt_first (argX m c) (argW m c) (argAge m c) i)

/-! ## The results -/

/-- The first result is the reference's. -/
theorem out_eq : (X5 m c main_v0_0 : Vec Ideal S1024x1024 .f32) = outRef (F := Ideal) (argX m c) (argW m c) (argZ m c) (argAge m c) := by
  have e : (X5 m c main_v0_0 : Vec Ideal S1024x1024 .f32) = callOut (X3 m) c := by
    refine (out_of (X4 m c)).trans ?_
    unfold X4
    rw [Function.update_of_ne (StableHlo.devRef_ne_of_ne (by decide) : (Proc.devRef .tc main_v0_0 : DevRef τ sig) ≠ Proc.devRef .tc main_call0_v3_1), Function.update_self]
    exact arr2 (X3 m) c
  rw [e]
  funext j
  obtain ⟨r, k, rfl⟩ : ∃ (r k : Fin 1024), j = ix2 r k := ⟨_, _, eq_ix2 _⟩
  rw [outRef_apply]
  unfold callOut
  have ez : (fun i => (inCol (X3 m) c (ix1 i)).toNat) = winnerAt (argX m c) (argW m c) (argAge m c) := funext (col_winner m c)
  rw [ez, X3_Z]
  rfl

/-- The second result is the reference's. -/
theorem count_eq : (X5 m c main_v0_1 : Vec Ideal S_ .f32) = countRef (F := Ideal) (argAge m c) := by
  funext j
  rw [countRef_apply]
  refine (congrFun (count_of (X4 m c)) j).trans ?_
  have e : (X4 m c main_call0_v3_1 : Vec Ideal S1x1 .f32) = (dat2 (X3 m) c).arrAt 4 cfg2.N := by
    unfold X4
    rw [Function.update_self]
  rw [e]
  have h := arr2_count (X3 m) c
  rw [X3_age] at h
  refine Eq.trans ?_ h
  pointwise

end Cert.KernelIdeal.Whole

end
-- ==== Proof.lean ====
/- The certificate's claim: the program's three chained kernel calls run without fault and leave their arguments alone, on
   the machine's formats and over the extended reals, and over the extended reals both results are those of the
   reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.ValueResult
public import Idealize.ShloMosaic.Lib.Quiescent

@[expose] public section

noncomputable section

namespace Cert.Proof

open Idealize.ShloMosaic Idealize.ShloMosaic.TcCoe Idealize.SL.Sem

/-- The kernel on the machine's formats runs, keeps its arguments and ends quiescent. -/
theorem kernel_runs : Cert.quiescent_Kernel := fun m g _ =>
  (θ_run Cert.Kernel.defs _ _).mono (fun _ h => ⟨fun c => (h.1 c).2, h.2⟩) (Cert.Kernel.Whole.run (F := Bits) m g)

/-- So does the kernel over the extended reals. -/
theorem kernelIdeal_runs : Cert.quiescent_KernelIdeal := fun m g _ =>
  (θ_run Cert.KernelIdeal.defs _ _).mono (fun _ h => ⟨fun c => (h.1 c).2, h.2⟩) (Cert.KernelIdeal.Whole.run (F := Ideal) m g)

/-- So does the reference, which has no semaphore. -/
theorem referenceIdeal_runs : Cert.quiescent_ReferenceIdeal := fun m g _ =>
  (θ_run Cert.ReferenceIdeal.defs _ _).mono (fun r h => ⟨fun c => (h c).2.2, sem_eq_zero_of_no_sems (by decide) r.2⟩)
    (Cert.ReferenceIdeal.Plain.run (F := Ideal) m g)

/-- Over the extended reals the kernel's two results are the reference's. -/
theorem results_agree : Cert.algebraic_KernelIdeal_ReferenceIdeal := by
  intro m g m' g' _ hm
  refine ⟨fun c => Cert.KernelIdeal.Whole.X5 m c Cert.KernelIdeal.main_v0_0, fun c => Cert.KernelIdeal.Whole.X5 m c Cert.KernelIdeal.main_v0_1,
    (θ_run Cert.KernelIdeal.defs _ _).mono (fun _ h c => ⟨(h.1 c).1.1, (h.1 c).1.2, (h.1 c).2⟩) (Cert.KernelIdeal.Whole.run (F := Ideal) m g), ?_⟩
  refine (θ_run Cert.ReferenceIdeal.defs _ _).mono (fun r h c => ?_) (Cert.ReferenceIdeal.Plain.run (F := Ideal) m' g')
  obtain ⟨a0, -, -, a3, -, a5, a6⟩ := hm c
  refine ⟨(h c).1.trans ?_, (h c).2.1.trans ?_, (h c).2.2⟩
  · refine Eq.trans ?_ (Cert.KernelIdeal.Whole.out_eq m c).symm
    congr 1
  · refine Eq.trans ?_ (Cert.KernelIdeal.Whole.count_eq m c).symm
    congr 1

/-- The whole claim. -/
theorem claim : Cert.Claim := ⟨Cert.Kernel.Gen.facts, Cert.KernelIdeal.Gen.facts, Cert.ReferenceIdeal.Gen.facts,
  kernel_runs, kernelIdeal_runs, referenceIdeal_runs, trivial, results_agree⟩

end Cert.Proof

end
